-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tables [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables [hPre_tables : Cert.Pre_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tables [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tables m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tables [hReferenceIdeal : Cert.ReferenceIdeal.Facts] [hPre_tables : Cert.Pre_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_tables [hKernelIdeal : Cert.KernelIdeal.Facts] [hReferenceIdeal : Cert.ReferenceIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tables : Cert.Pre_tables.Facts),
    quiescent_Kernel (hKernel := hKernel)
    ∧ quiescent_KernelIdeal (hKernelIdeal := hKernelIdeal)
    ∧ quiescent_KernelIdeal_pre_tables (hKernelIdeal := hKernelIdeal) (hPre_tables := hPre_tables)
    ∧ quiescent_ReferenceIdeal (hReferenceIdeal := hReferenceIdeal)
    ∧ quiescent_ReferenceIdeal_pre_tables (hReferenceIdeal := hReferenceIdeal) (hPre_tables := hPre_tables)
    ∧ preserves_Kernel_KernelIdeal
    ∧ algebraic_KernelIdeal_ReferenceIdeal_pre_tables (hKernelIdeal := hKernelIdeal) (hReferenceIdeal := hReferenceIdeal) (hPre_tables := hPre_tables)
-- ==== Pre_tables.lean ====
abbrev S2x4096x2048 : Shape := ⟨3, ![2, 4096, 2048]⟩
abbrev S17 : Shape := ⟨1, ![17]⟩
abbrev S_ : Shape := ⟨0, ![]⟩

class Facts : Prop where
  reducesTo_S17_S_d0 : S17.ReducesTo [0] S_
  h_S_ : 0 < S_.numel
  bcast_S_S2x4096x2048 : S_.BroadcastsInDim S2x4096x2048 (![] : Fin 0 → Fin S2x4096x2048.rank)
  reducesTo_S2x4096x2048_S_d0_1_2 : S2x4096x2048.ReducesTo [0, 1, 2] S_

variable [Facts]

noncomputable abbrev lit0 : Fin 17 → BitVec 32 := fun
  | 0 => 0xBF800000#32 | 1 => 0xBF600000#32 | 2 => 0xBF400000#32 | 3 => 0xBF200000#32 | 4 => 0xBF000000#32 | 5 => 0xBEC00000#32 | 6 => 0xBE800000#32 | 7 => 0xBE000000#32
  | 8 => 0x00000000#32 | 9 => 0x3E000000#32 | 10 => 0x3E800000#32 | 11 => 0x3EC00000#32 | 12 => 0x3F000000#32 | 13 => 0x3F200000#32 | 14 => 0x3F400000#32 | 15 => 0x3F600000#32
  | 16 => 0x3F800000#32
  | _ => 0#32

noncomputable abbrev lit1 : Fin 17 → BitVec 32 := fun
  | 0 => 0x00000000#32 | 1 => 0x00000000#32 | 2 => 0x00000000#32 | 3 => 0x00000000#32 | 4 => 0x00000000#32 | 5 => 0x00000000#32 | 6 => 0x00000000#32 | 7 => 0x00000000#32
  | 8 => 0x00000000#32 | 9 => 0x3E000000#32 | 10 => 0x3E800000#32 | 11 => 0x3EC00000#32 | 12 => 0x3F000000#32 | 13 => 0x3F200000#32 | 14 => 0x3F400000#32 | 15 => 0x3F600000#32
  | 16 => 0x3F800000#32
  | _ => 0#32

def fn {F : FTy → Type} [FloatOps F] (main_arg0 : FVec F S2x4096x2048 .f32) (main_arg1 : FVec F S17 .f32) (main_arg2 : FVec F S17 .f32) : IVec S_ 1 :=
  let main_cst : FVec F S17 .f32 := fun i => FloatOps.ofBits .f32 (lit0 (S17.rowMajor i))
  let main_cst_0 : FVec F S17 .f32 := fun i => FloatOps.ofBits .f32 (lit1 (S17.rowMajor i))
  let main_v0 : IVec S17 1 := cmpf .oeq main_arg1 main_cst
  let main_c : IVec S_ 1 := constantI S_ 1 1#1
  let main_v1 : IVec S_ 1 := (fun x v => Host.reduce IntOp.andi x v reducesTo_S17_S_d0 h_S_) main_v0 main_c
  let main_v2 : IVec S17 1 := cmpf .oeq main_arg2 main_cst_0
  let main_c_1 : IVec S_ 1 := constantI S_ 1 1#1
  let main_v3 : IVec S_ 1 := (fun x v => Host.reduce IntOp.andi x v reducesTo_S17_S_d0 h_S_) main_v2 main_c_1
  let main_v4 : IVec S_ 1 := andi main_v1 main_v3
  let main_cst_2 : FVec F S_ .f32 := constant S_ .f32 0xC61C4000#32
  let main_v5 : FVec F S2x4096x2048 .f32 := broadcastInDim S2x4096x2048 ![] bcast_S_S2x4096x2048 main_cst_2
  let main_v6 : IVec S2x4096x2048 1 := cmpf .ogt main_arg0 main_v5
  let main_cst_3 : FVec F S_ .f32 := constant S_ .f32 0x461C4000#32
  let main_v7 : FVec F S2x4096x2048 .f32 := broadcastInDim S2x4096x2048 ![] bcast_S_S2x4096x2048 main_cst_3
  let main_v8 : IVec S2x4096x2048 1 := cmpf .ole main_arg0 main_v7
  let main_v9 : IVec S2x4096x2048 1 := andi main_v6 main_v8
  let main_c_4 : IVec S_ 1 := constantI S_ 1 1#1
  let main_v10 : IVec S_ 1 := (fun x v => Host.reduce IntOp.andi x v reducesTo_S2x4096x2048_S_d0_1_2 h_S_) main_v9 main_c_4
  let main_v11 : IVec S_ 1 := andi main_v4 main_v10
  main_v11
-- ==== Kernel.lean ====
abbrev S2x4096x2048 : Shape := ⟨3, ![2, 4096, 2048]⟩
abbrev S17 : Shape := ⟨1, ![17]⟩
abbrev S2x512x8x2048 : Shape := ⟨4, ![2, 512, 8, 2048]⟩
abbrev S8x2048 : Shape := ⟨2, ![8, 2048]⟩
abbrev S_ : Shape := ⟨0, ![]⟩
abbrev S1x1x8x2048 : Shape := ⟨4, ![1, 1, 8, 2048]⟩
abbrev S1x16 : Shape := ⟨2, ![1, 16]⟩
abbrev S16 : Shape := ⟨1, ![16]⟩

abbrev nBuf : Table → Nat
  | .hbm => 6
  | .local .scVector .vmem => 4
  | _ => 0

abbrev bufTy : (tb : Table) → Fin (nBuf tb) → BufTy
  | .hbm, ⟨0, _⟩ => ⟨S2x4096x2048, .f32⟩
  | .hbm, ⟨1, _⟩ => ⟨S17, .f32⟩
  | .hbm, ⟨2, _⟩ => ⟨S17, .f32⟩
  | .hbm, ⟨3, _⟩ => ⟨S2x512x8x2048, .f32⟩
  | .hbm, ⟨4, _⟩ => ⟨S2x512x8x2048, .f32⟩
  | .hbm, ⟨5, _⟩ => ⟨S2x4096x2048, .f32⟩
  | .local .scVector .vmem, ⟨0, _⟩ => ⟨S8x2048, .f32⟩
  | .local .scVector .vmem, ⟨1, _⟩ => ⟨S8x2048, .f32⟩
  | .local .scVector .vmem, ⟨2, _⟩ => ⟨S8x2048, .f32⟩
  | .local .scVector .vmem, ⟨3, _⟩ => ⟨S8x2048, .f32⟩
  | _, _ => ⟨S2x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let v1 : BitVec 32 := Scalar.addi v0 c0_i32
  let c0_i32_0 : BitVec 32 := 0#32
  let c0_i32_1 : BitVec 32 := 0#32
  ![arg0.toNat, v1.toNat, 0, 0]
def k0_off1_at (r : Fin 4) : BitVec 32 :=
  if r.val < 2 then
    if r.val < 1 then
      0#32
    else
      1#32
  else
    if r.val < 3 then
      30#32
    else
      31#32
@[reducible] def k0_t1_loop : Scf.Loop 32 :=
  let c0_i32_9 : BitVec 32 := 0#32
  let c16_i32 : BitVec 32 := 16#32
  let v11 : BitVec 32 := Scalar.addi c0_i32_9 c16_i32
  let c1_i32_10 : BitVec 32 := 1#32
  ⟨c0_i32_9, v11, c1_i32_10⟩
def k0_off2 (i : grid0.Coords) (k0_t1 : Fin k0_t1_loop.trips) (c0_i32_20 : BitVec 32) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c0_i32_9 : BitVec 32 := 0#32
  let c1_i32_10 : BitVec 32 := 1#32
  let arg12 : BitVec 32 := Scf.iv c0_i32_9 c1_i32_10 k0_t1
  let c2_i32 : BitVec 32 := 2#32
  let v23 : BitVec 32 := Scalar.muli arg12 c2_i32
  let v24 : BitVec 32 := Scalar.addi v23 c0_i32_20
  let v25 : BitVec 32 := Scalar.addi v0 v24
  let c0_i32_21 : BitVec 32 := 0#32
  let c0_i32_22 : BitVec 32 := 0#32
  ![arg0.toNat, v25.toNat, 0, 0]
def k0_cond1 (k0_t1 : Fin k0_t1_loop.trips) : BitVec 1 :=
  let c0_i32_9 : BitVec 32 := 0#32
  let c1_i32_10 : BitVec 32 := 1#32
  let arg12 : BitVec 32 := Scf.iv c0_i32_9 c1_i32_10 k0_t1
  let c2_i32 : BitVec 32 := 2#32
  let v23 : BitVec 32 := Scalar.muli arg12 c2_i32
  let c0_i32_20 : BitVec 32 := 0#32
  let v24 : BitVec 32 := Scalar.addi v23 c0_i32_20
  let c2_i32_25 : BitVec 32 := 2#32
  let v30 : BitVec 1 := Scalar.cmpi .sge v24 c2_i32_25
  let v31 : BitVec 32 := Scalar.extui v30
  let c0_i32_26 : BitVec 32 := 0#32
  let v32 : BitVec 1 := Scalar.cmpi .ne v31 c0_i32_26
  v32

def k0_off3 (i : grid0.Coords) (k0_t1 : Fin k0_t1_loop.trips) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c0_i32_9 : BitVec 32 := 0#32
  let c1_i32_10 : BitVec 32 := 1#32
  let arg12 : BitVec 32 := Scf.iv c0_i32_9 c1_i32_10 k0_t1
  let c2_i32 : BitVec 32 := 2#32
  let v23 : BitVec 32 := Scalar.muli arg12 c2_i32
  let c0_i32_20 : BitVec 32 := 0#32
  let v24 : BitVec 32 := Scalar.addi v23 c0_i32_20
  let c2_i32_56 : BitVec 32 := 2#32
  let v62 : BitVec 32 := Scalar.subi v24 c2_i32_56
  let v63 : BitVec 32 := Scalar.addi v0 v62
  let c0_i32_57 : BitVec 32 := 0#32
  let c0_i32_58 : BitVec 32 := 0#32
  ![arg0.toNat, v63.toNat, 0, 0]
@[reducible] def k0_t2_loop : Scf.Loop 32 :=
  let c0_i32_27 : BitVec 32 := 0#32
  let c128_i32 : BitVec 32 := 128#32
  let v33 : BitVec 32 := Scalar.addi c0_i32_27 c128_i32
  let c1_i32_28 : BitVec 32 := 1#32
  ⟨c0_i32_27, v33, c1_i32_28⟩
def k0_off4 (k0_t2 : Fin k0_t2_loop.trips) : Fin 2 → Nat :=
  let c0_i32_59 : BitVec 32 := 0#32
  let v65 : Index := Scalar.indexCast c0_i32_59
  let c0_i32_57 : BitVec 32 := 0#32
  let c0_i32_27 : BitVec 32 := 0#32
  let c1_i32_28 : BitVec 32 := 1#32
  let arg14 : BitVec 32 := Scf.iv c0_i32_27 c1_i32_28 k0_t2
  let c1_i32_56 : BitVec 32 := 1#32
  let v62 : BitVec 32 := Scalar.muli arg14 c1_i32_56
  let v63 : BitVec 32 := Scalar.addi c0_i32_57 v62
  let c16_i32_58 : BitVec 32 := 16#32
  let v64 : BitVec 32 := Scalar.muli v63 c16_i32_58
  let v66 : Index := Scalar.indexCast v64
  ![0, v66.toNat]
def k0_off5 (k0_t2 : Fin k0_t2_loop.trips) : Fin 2 → Nat :=
  let c1_i32_66 : BitVec 32 := 1#32
  let v90 : Index := Scalar.indexCast c1_i32_66
  let c0_i32_57 : BitVec 32 := 0#32
  let c0_i32_27 : BitVec 32 := 0#32
  let c1_i32_28 : BitVec 32 := 1#32
  let arg14 : BitVec 32 := Scf.iv c0_i32_27 c1_i32_28 k0_t2
  let c1_i32_56 : BitVec 32 := 1#32
  let v62 : BitVec 32 := Scalar.muli arg14 c1_i32_56
  let v63 : BitVec 32 := Scalar.addi c0_i32_57 v62
  let c16_i32_65 : BitVec 32 := 16#32
  let v89 : BitVec 32 := Scalar.muli v63 c16_i32_65
  let v91 : Index := Scalar.indexCast v89
  ![1, v91.toNat]
def k0_off6 (k0_t2 : Fin k0_t2_loop.trips) : Fin 2 → Nat :=
  let c2_i32_74 : BitVec 32 := 2#32
  let v115 : Index := Scalar.indexCast c2_i32_74
  let c0_i32_57 : BitVec 32 := 0#32
  let c0_i32_27 : BitVec 32 := 0#32
  let c1_i32_28 : BitVec 32 := 1#32
  let arg14 : BitVec 32 := Scf.iv c0_i32_27 c1_i32_28 k0_t2
  let c1_i32_56 : BitVec 32 := 1#32
  let v62 : BitVec 32 := Scalar.muli arg14 c1_i32_56
  let v63 : BitVec 32 := Scalar.addi c0_i32_57 v62
  let c16_i32_73 : BitVec 32 := 16#32
  let v114 : BitVec 32 := Scalar.muli v63 c16_i32_73
  let v116 : Index := Scalar.indexCast v114
  ![2, v116.toNat]
def k0_off7 (k0_t2 : Fin k0_t2_loop.trips) : Fin 2 → Nat :=
  let c3_i32 : BitVec 32 := 3#32
  let v140 : Index := Scalar.indexCast c3_i32
  let c0_i32_57 : BitVec 32 := 0#32
  let c0_i32_27 : BitVec 32 := 0#32
  let c1_i32_28 : BitVec 32 := 1#32
  let arg14 : BitVec 32 := Scf.iv c0_i32_27 c1_i32_28 k0_t2
  let c1_i32_56 : BitVec 32 := 1#32
  let v62 : BitVec 32 := Scalar.muli arg14 c1_i32_56
  let v63 : BitVec 32 := Scalar.addi c0_i32_57 v62
  let c16_i32_81 : BitVec 32 := 16#32
  let v139 : BitVec 32 := Scalar.muli v63 c16_i32_81
  let v141 : Index := Scalar.indexCast v139
  ![3, v141.toNat]
def k0_off8 (k0_t2 : Fin k0_t2_loop.trips) : Fin 2 → Nat :=
  let c4_i32 : BitVec 32 := 4#32
  let v165 : Index := Scalar.indexCast c4_i32
  let c0_i32_57 : BitVec 32 := 0#32
  let c0_i32_27 : BitVec 32 := 0#32
  let c1_i32_28 : BitVec 32 := 1#32
  let arg14 : BitVec 32 := Scf.iv c0_i32_27 c1_i32_28 k0_t2
  let c1_i32_56 : BitVec 32 := 1#32
  let v62 : BitVec 32 := Scalar.muli arg14 c1_i32_56
  let v63 : BitVec 32 := Scalar.addi c0_i32_57 v62
  let c16_i32_88 : BitVec 32 := 16#32
  let v164 : BitVec 32 := Scalar.muli v63 c16_i32_88
  let v166 : Index := Scalar.indexCast v164
  ![4, v166.toNat]
def k0_off9 (k0_t2 : Fin k0_t2_loop.trips) : Fin 2 → Nat :=
  let c5_i32 : BitVec 32 := 5#32
  let v190 : Index := Scalar.indexCast c5_i32
  let c0_i32_57 : BitVec 32 := 0#32
  let c0_i32_27 : BitVec 32 := 0#32
  let c1_i32_28 : BitVec 32 := 1#32
  let arg14 : BitVec 32 := Scf.iv c0_i32_27 c1_i32_28 k0_t2
  let c1_i32_56 : BitVec 32 := 1#32
  let v62 : BitVec 32 := Scalar.muli arg14 c1_i32_56
  let v63 : BitVec 32 := Scalar.addi c0_i32_57 v62
  let c16_i32_95 : BitVec 32 := 16#32
  let v189 : BitVec 32 := Scalar.muli v63 c16_i32_95
  let v191 : Index := Scalar.indexCast v189
  ![5, v191.toNat]
def k0_off10 (k0_t2 : Fin k0_t2_loop.trips) : Fin 2 → Nat :=
  let c6_i32 : BitVec 32 := 6#32
  let v215 : Index := Scalar.indexCast c6_i32
  let c0_i32_57 : BitVec 32 := 0#32
  let c0_i32_27 : BitVec 32 := 0#32
  let c1_i32_28 : BitVec 32 := 1#32
  let arg14 : BitVec 32 := Scf.iv c0_i32_27 c1_i32_28 k0_t2
  let c1_i32_56 : BitVec 32 := 1#32
  let v62 : BitVec 32 := Scalar.muli arg14 c1_i32_56
  let v63 : BitVec 32 := Scalar.addi c0_i32_57 v62
  let c16_i32_102 : BitVec 32 := 16#32
  let v214 : BitVec 32 := Scalar.muli v63 c16_i32_102
  let v216 : Index := Scalar.indexCast v214
  ![6, v216.toNat]
def k0_off11 (k0_t2 : Fin k0_t2_loop.trips) : Fin 2 → Nat :=
  let c7_i32 : BitVec 32 := 7#32
  let v240 : Index := Scalar.indexCast c7_i32
  let c0_i32_57 : BitVec 32 := 0#32
  let c0_i32_27 : BitVec 32 := 0#32
  let c1_i32_28 : BitVec 32 := 1#32
  let arg14 : BitVec 32 := Scf.iv c0_i32_27 c1_i32_28 k0_t2
  let c1_i32_56 : BitVec 32 := 1#32
  let v62 : BitVec 32 := Scalar.muli arg14 c1_i32_56
  let v63 : BitVec 32 := Scalar.addi c0_i32_57 v62
  let c16_i32_109 : BitVec 32 := 16#32
  let v239 : BitVec 32 := Scalar.muli v63 c16_i32_109
  let v241 : Index := Scalar.indexCast v239
  ![7, v241.toNat]
def k0_cond2 (k0_t1 : Fin k0_t1_loop.trips) : BitVec 1 :=
  let c0_i32_9 : BitVec 32 := 0#32
  let c1_i32_10 : BitVec 32 := 1#32
  let arg12 : BitVec 32 := Scf.iv c0_i32_9 c1_i32_10 k0_t1
  let c2_i32 : BitVec 32 := 2#32
  let v23 : BitVec 32 := Scalar.muli arg12 c2_i32
  let c0_i32_20 : BitVec 32 := 0#32
  let v24 : BitVec 32 := Scalar.addi v23 c0_i32_20
  let c2_i32_34 : BitVec 32 := 2#32
  let v39 : BitVec 32 := Scalar.addi v24 c2_i32_34
  let c32_i32_35 : BitVec 32 := 32#32
  let v40 : BitVec 1 := Scalar.cmpi .slt v39 c32_i32_35
  let v41 : BitVec 32 := Scalar.extui v40
  let c0_i32_36 : BitVec 32 := 0#32
  let v42 : BitVec 1 := Scalar.cmpi .ne v41 c0_i32_36
  v42

def k0_off12 (i : grid0.Coords) (k0_t1 : Fin k0_t1_loop.trips) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c0_i32_9 : BitVec 32 := 0#32
  let c1_i32_10 : BitVec 32 := 1#32
  let arg12 : BitVec 32 := Scf.iv c0_i32_9 c1_i32_10 k0_t1
  let c2_i32 : BitVec 32 := 2#32
  let v23 : BitVec 32 := Scalar.muli arg12 c2_i32
  let c0_i32_20 : BitVec 32 := 0#32
  let v24 : BitVec 32 := Scalar.addi v23 c0_i32_20
  let c2_i32_56 : BitVec 32 := 2#32
  let v62 : BitVec 32 := Scalar.addi v24 c2_i32_56
  let v63 : BitVec 32 := Scalar.addi v0 v62
  let c0_i32_57 : BitVec 32 := 0#32
  let c0_i32_58 : BitVec 32 := 0#32
  ![arg0.toNat, v63.toNat, 0, 0]
def k0_cond3 (k0_t1 : Fin k0_t1_loop.trips) : BitVec 1 :=
  let c0_i32_9 : BitVec 32 := 0#32
  let c1_i32_10 : BitVec 32 := 1#32
  let arg12 : BitVec 32 := Scf.iv c0_i32_9 c1_i32_10 k0_t1
  let c2_i32 : BitVec 32 := 2#32
  let v23 : BitVec 32 := Scalar.muli arg12 c2_i32
  let c1_i32_37 : BitVec 32 := 1#32
  let v43 : BitVec 32 := Scalar.addi v23 c1_i32_37
  let c2_i32_42 : BitVec 32 := 2#32
  let v49 : BitVec 1 := Scalar.cmpi .sge v43 c2_i32_42
  let v50 : BitVec 32 := Scalar.extui v49
  let c0_i32_43 : BitVec 32 := 0#32
  let v51 : BitVec 1 := Scalar.cmpi .ne v50 c0_i32_43
  v51

def k0_off13 (i : grid0.Coords) (k0_t1 : Fin k0_t1_loop.trips) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c0_i32_9 : BitVec 32 := 0#32
  let c1_i32_10 : BitVec 32 := 1#32
  let arg12 : BitVec 32 := Scf.iv c0_i32_9 c1_i32_10 k0_t1
  let c2_i32 : BitVec 32 := 2#32
  let v23 : BitVec 32 := Scalar.muli arg12 c2_i32
  let c1_i32_37 : BitVec 32 := 1#32
  let v43 : BitVec 32 := Scalar.addi v23 c1_i32_37
  let c2_i32_56 : BitVec 32 := 2#32
  let v62 : BitVec 32 := Scalar.subi v43 c2_i32_56
  let v63 : BitVec 32 := Scalar.addi v0 v62
  let c0_i32_57 : BitVec 32 := 0#32
  let c0_i32_58 : BitVec 32 := 0#32
  ![arg0.toNat, v63.toNat, 0, 0]
@[reducible] def k0_t3_loop : Scf.Loop 32 :=
  let c0_i32_44 : BitVec 32 := 0#32
  let c128_i32_45 : BitVec 32 := 128#32
  let v52 : BitVec 32 := Scalar.addi c0_i32_44 c128_i32_45
  let c1_i32_46 : BitVec 32 := 1#32
  ⟨c0_i32_44, v52, c1_i32_46⟩
def k0_off14 (k0_t3 : Fin k0_t3_loop.trips) : Fin 2 → Nat :=
  let c0_i32_59 : BitVec 32 := 0#32
  let v65 : Index := Scalar.indexCast c0_i32_59
  let c0_i32_57 : BitVec 32 := 0#32
  let c0_i32_44 : BitVec 32 := 0#32
  let c1_i32_46 : BitVec 32 := 1#32
  let arg14 : BitVec 32 := Scf.iv c0_i32_44 c1_i32_46 k0_t3
  let c1_i32_56 : BitVec 32 := 1#32
  let v62 : BitVec 32 := Scalar.muli arg14 c1_i32_56
  let v63 : BitVec 32 := Scalar.addi c0_i32_57 v62
  let c16_i32_58 : BitVec 32 := 16#32
  let v64 : BitVec 32 := Scalar.muli v63 c16_i32_58
  let v66 : Index := Scalar.indexCast v64
  ![0, v66.toNat]
def k0_off15 (k0_t3 : Fin k0_t3_loop.trips) : Fin 2 → Nat :=
  let c1_i32_66 : BitVec 32 := 1#32
  let v90 : Index := Scalar.indexCast c1_i32_66
  let c0_i32_57 : BitVec 32 := 0#32
  let c0_i32_44 : BitVec 32 := 0#32
  let c1_i32_46 : BitVec 32 := 1#32
  let arg14 : BitVec 32 := Scf.iv c0_i32_44 c1_i32_46 k0_t3
  let c1_i32_56 : BitVec 32 := 1#32
  let v62 : BitVec 32 := Scalar.muli arg14 c1_i32_56
  let v63 : BitVec 32 := Scalar.addi c0_i32_57 v62
  let c16_i32_65 : BitVec 32 := 16#32
  let v89 : BitVec 32 := Scalar.muli v63 c16_i32_65
  let v91 : Index := Scalar.indexCast v89
  ![1, v91.toNat]
def k0_off16 (k0_t3 : Fin k0_t3_loop.trips) : Fin 2 → Nat :=
  let c2_i32_74 : BitVec 32 := 2#32
  let v115 : Index := Scalar.indexCast c2_i32_74
  let c0_i32_57 : BitVec 32 := 0#32
  let c0_i32_44 : BitVec 32 := 0#32
  let c1_i32_46 : BitVec 32 := 1#32
  let arg14 : BitVec 32 := Scf.iv c0_i32_44 c1_i32_46 k0_t3
  let c1_i32_56 : BitVec 32 := 1#32
  let v62 : BitVec 32 := Scalar.muli arg14 c1_i32_56
  let v63 : BitVec 32 := Scalar.addi c0_i32_57 v62
  let c16_i32_73 : BitVec 32 := 16#32
  let v114 : BitVec 32 := Scalar.muli v63 c16_i32_73
  let v116 : Index := Scalar.indexCast v114
  ![2, v116.toNat]
def k0_off17 (k0_t3 : Fin k0_t3_loop.trips) : Fin 2 → Nat :=
  let c3_i32 : BitVec 32 := 3#32
  let v140 : Index := Scalar.indexCast c3_i32
  let c0_i32_57 : BitVec 32 := 0#32
  let c0_i32_44 : BitVec 32 := 0#32
  let c1_i32_46 : BitVec 32 := 1#32
  let arg14 : BitVec 32 := Scf.iv c0_i32_44 c1_i32_46 k0_t3
  let c1_i32_56 : BitVec 32 := 1#32
  let v62 : BitVec 32 := Scalar.muli arg14 c1_i32_56
  let v63 : BitVec 32 := Scalar.addi c0_i32_57 v62
  let c16_i32_81 : BitVec 32 := 16#32
  let v139 : BitVec 32 := Scalar.muli v63 c16_i32_81
  let v141 : Index := Scalar.indexCast v139
  ![3, v141.toNat]
def k0_off18 (k0_t3 : Fin k0_t3_loop.trips) : Fin 2 → Nat :=
  let c4_i32 : BitVec 32 := 4#32
  let v165 : Index := Scalar.indexCast c4_i32
  let c0_i32_57 : BitVec 32 := 0#32
  let c0_i32_44 : BitVec 32 := 0#32
  let c1_i32_46 : BitVec 32 := 1#32
  let arg14 : BitVec 32 := Scf.iv c0_i32_44 c1_i32_46 k0_t3
  let c1_i32_56 : BitVec 32 := 1#32
  let v62 : BitVec 32 := Scalar.muli arg14 c1_i32_56
  let v63 : BitVec 32 := Scalar.addi c0_i32_57 v62
  let c16_i32_88 : BitVec 32 := 16#32
  let v164 : BitVec 32 := Scalar.muli v63 c16_i32_88
  let v166 : Index := Scalar.indexCast v164
  ![4, v166.toNat]
def k0_off19 (k0_t3 : Fin k0_t3_loop.trips) : Fin 2 → Nat :=
  let c5_i32 : BitVec 32 := 5#32
  let v190 : Index := Scalar.indexCast c5_i32
  let c0_i32_57 : BitVec 32 := 0#32
  let c0_i32_44 : BitVec 32 := 0#32
  let c1_i32_46 : BitVec 32 := 1#32
  let arg14 : BitVec 32 := Scf.iv c0_i32_44 c1_i32_46 k0_t3
  let c1_i32_56 : BitVec 32 := 1#32
  let v62 : BitVec 32 := Scalar.muli arg14 c1_i32_56
  let v63 : BitVec 32 := Scalar.addi c0_i32_57 v62
  let c16_i32_95 : BitVec 32 := 16#32
  let v189 : BitVec 32 := Scalar.muli v63 c16_i32_95
  let v191 : Index := Scalar.indexCast v189
  ![5, v191.toNat]
def k0_off20 (k0_t3 : Fin k0_t3_loop.trips) : Fin 2 → Nat :=
  let c6_i32 : BitVec 32 := 6#32
  let v215 : Index := Scalar.indexCast c6_i32
  let c0_i32_57 : BitVec 32 := 0#32
  let c0_i32_44 : BitVec 32 := 0#32
  let c1_i32_46 : BitVec 32 := 1#32
  let arg14 : BitVec 32 := Scf.iv c0_i32_44 c1_i32_46 k0_t3
  let c1_i32_56 : BitVec 32 := 1#32
  let v62 : BitVec 32 := Scalar.muli arg14 c1_i32_56
  let v63 : BitVec 32 := Scalar.addi c0_i32_57 v62
  let c16_i32_102 : BitVec 32 := 16#32
  let v214 : BitVec 32 := Scalar.muli v63 c16_i32_102
  let v216 : Index := Scalar.indexCast v214
  ![6, v216.toNat]
def k0_off21 (k0_t3 : Fin k0_t3_loop.trips) : Fin 2 → Nat :=
  let c7_i32 : BitVec 32 := 7#32
  let v240 : Index := Scalar.indexCast c7_i32
  let c0_i32_57 : BitVec 32 := 0#32
  let c0_i32_44 : BitVec 32 := 0#32
  let c1_i32_46 : BitVec 32 := 1#32
  let arg14 : BitVec 32 := Scf.iv c0_i32_44 c1_i32_46 k0_t3
  let c1_i32_56 : BitVec 32 := 1#32
  let v62 : BitVec 32 := Scalar.muli arg14 c1_i32_56
  let v63 : BitVec 32 := Scalar.addi c0_i32_57 v62
  let c16_i32_109 : BitVec 32 := 16#32
  let v239 : BitVec 32 := Scalar.muli v63 c16_i32_109
  let v241 : Index := Scalar.indexCast v239
  ![7, v241.toNat]
def k0_cond4 (k0_t1 : Fin k0_t1_loop.trips) : BitVec 1 :=
  let c0_i32_9 : BitVec 32 := 0#32
  let c1_i32_10 : BitVec 32 := 1#32
  let arg12 : BitVec 32 := Scf.iv c0_i32_9 c1_i32_10 k0_t1
  let c2_i32 : BitVec 32 := 2#32
  let v23 : BitVec 32 := Scalar.muli arg12 c2_i32
  let c1_i32_37 : BitVec 32 := 1#32
  let v43 : BitVec 32 := Scalar.addi v23 c1_i32_37
  let c2_i32_52 : BitVec 32 := 2#32
  let v58 : BitVec 32 := Scalar.addi v43 c2_i32_52
  let c32_i32_53 : BitVec 32 := 32#32
  let v59 : BitVec 1 := Scalar.cmpi .slt v58 c32_i32_53
  let v60 : BitVec 32 := Scalar.extui v59
  let c0_i32_54 : BitVec 32 := 0#32
  let v61 : BitVec 1 := Scalar.cmpi .ne v60 c0_i32_54
  v61

def k0_off22 (i : grid0.Coords) (k0_t1 : Fin k0_t1_loop.trips) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c0_i32_9 : BitVec 32 := 0#32
  let c1_i32_10 : BitVec 32 := 1#32
  let arg12 : BitVec 32 := Scf.iv c0_i32_9 c1_i32_10 k0_t1
  let c2_i32 : BitVec 32 := 2#32
  let v23 : BitVec 32 := Scalar.muli arg12 c2_i32
  let c1_i32_37 : BitVec 32 := 1#32
  let v43 : BitVec 32 := Scalar.addi v23 c1_i32_37
  let c2_i32_56 : BitVec 32 := 2#32
  let v62 : BitVec 32 := Scalar.addi v43 c2_i32_56
  let v63 : BitVec 32 := Scalar.addi v0 v62
  let c0_i32_57 : BitVec 32 := 0#32
  let c0_i32_58 : BitVec 32 := 0#32
  ![arg0.toNat, v63.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x4096x2048 : Shape := ⟨3, ![2, 4096, 2048]⟩
abbrev S17 : Shape := ⟨1, ![17]⟩
abbrev S1 : Shape := ⟨1, ![1]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S2x4096x2048, .f32⟩
  | 1 => ⟨S17, .f32⟩
  | 2 => ⟨S17, .f32⟩
  | 3 => ⟨S1, .f32⟩
  | 4 => ⟨S_, .f32⟩
  | 5 => ⟨S_, .f32⟩
  | 6 => ⟨S2x4096x2048, .f32⟩
  | 7 => ⟨S2x4096x2048, .i1⟩
  | 8 => ⟨S2x4096x2048, .f32⟩
  | 9 => ⟨S2x4096x2048, .i1⟩
  | 10 => ⟨S2x4096x2048, .i1⟩
  | 11 => ⟨S1, .f32⟩
  | 12 => ⟨S_, .f32⟩
  | 13 => ⟨S2x4096x2048, .f32⟩
  | 14 => ⟨S2x4096x2048, .f32⟩
  | 15 => ⟨S1, .f32⟩
  | 16 => ⟨S_, .f32⟩
  | 17 => ⟨S1, .f32⟩
  | 18 => ⟨S_, .f32⟩
  | 19 => ⟨S2x4096x2048, .f32⟩
  | 20 => ⟨S2x4096x2048, .i1⟩
  | 21 => ⟨S2x4096x2048, .f32⟩
  | 22 => ⟨S2x4096x2048, .i1⟩
  | 23 => ⟨S2x4096x2048, .i1⟩
  | 24 => ⟨S1, .f32⟩
  | 25 => ⟨S_, .f32⟩
  | 26 => ⟨S2x4096x2048, .f32⟩
  | 27 => ⟨S2x4096x2048, .f32⟩
  | 28 => ⟨S1, .f32⟩
  | 29 => ⟨S_, .f32⟩
  | 30 => ⟨S1, .f32⟩
  | 31 => ⟨S_, .f32⟩
  | 32 => ⟨S2x4096x2048, .f32⟩
  | 33 => ⟨S2x4096x2048, .i1⟩
  | 34 => ⟨S2x4096x2048, .f32⟩
  | 35 => ⟨S2x4096x2048, .i1⟩
  | 36 => ⟨S2x4096x2048, .i1⟩
  | 37 => ⟨S1, .f32⟩
  | 38 => ⟨S_, .f32⟩
  | 39 => ⟨S2x4096x2048, .f32⟩
  | 40 => ⟨S2x4096x2048, .f32⟩
  | 41 => ⟨S1, .f32⟩
  | 42 => ⟨S_, .f32⟩
  | 43 => ⟨S1, .f32⟩
  | 44 => ⟨S_, .f32⟩
  | 45 => ⟨S2x4096x2048, .f32⟩
  | 46 => ⟨S2x4096x2048, .i1⟩
  | 47 => ⟨S2x4096x2048, .f32⟩
  | 48 => ⟨S2x4096x2048, .i1⟩
  | 49 => ⟨S2x4096x2048, .i1⟩
  | 50 => ⟨S1, .f32⟩
  | 51 => ⟨S_, .f32⟩
  | 52 => ⟨S2x4096x2048, .f32⟩
  | 53 => ⟨S2x4096x2048, .f32⟩
  | 54 => ⟨S1, .f32⟩
  | 55 => ⟨S_, .f32⟩
  | 56 => ⟨S1, .f32⟩
  | 57 => ⟨S_, .f32⟩
  | 58 => ⟨S2x4096x2048, .f32⟩
  | 59 => ⟨S2x4096x2048, .i1⟩
  | 60 => ⟨S2x4096x2048, .f32⟩
  | 61 => ⟨S2x4096x2048, .i1⟩
  | 62 => ⟨S2x4096x2048, .i1⟩
  | 63 => ⟨S1, .f32⟩
  | 64 => ⟨S_, .f32⟩
  | 65 => ⟨S2x4096x2048, .f32⟩
  | 66 => ⟨S2x4096x2048, .f32⟩
  | 67 => ⟨S1, .f32⟩
  | 68 => ⟨S_, .f32⟩
  | 69 => ⟨S1, .f32⟩
  | 70 => ⟨S_, .f32⟩
  | 71 => ⟨S2x4096x2048, .f32⟩
  | 72 => ⟨S2x4096x2048, .i1⟩
  | 73 => ⟨S2x4096x2048, .f32⟩
  | 74 => ⟨S2x4096x2048, .i1⟩
  | 75 => ⟨S2x4096x2048, .i1⟩
  | 76 => ⟨S1, .f32⟩
  | 77 => ⟨S_, .f32⟩
  | 78 => ⟨S2x4096x2048, .f32⟩
  | 79 => ⟨S2x4096x2048, .f32⟩
  | 80 => ⟨S1, .f32⟩
  | 81 => ⟨S_, .f32⟩
  | 82 => ⟨S1, .f32⟩
  | 83 => ⟨S_, .f32⟩
  | 84 => ⟨S2x4096x2048, .f32⟩
  | 85 => ⟨S2x4096x2048, .i1⟩
  | 86 => ⟨S2x4096x2048, .f32⟩
  | 87 => ⟨S2x4096x2048, .i1⟩
  | 88 => ⟨S2x4096x2048, .i1⟩
  | 89 => ⟨S1, .f32⟩
  | 90 => ⟨S_, .f32⟩
  | 91 => ⟨S2x4096x2048, .f32⟩
  | 92 => ⟨S2x4096x2048, .f32⟩
  | 93 => ⟨S1, .f32⟩
  | 94 => ⟨S_, .f32⟩
  | 95 => ⟨S1, .f32⟩
  | 96 => ⟨S_, .f32⟩
  | 97 => ⟨S2x4096x2048, .f32⟩
  | 98 => ⟨S2x4096x2048, .i1⟩
  | 99 => ⟨S2x4096x2048, .f32⟩
  | 100 => ⟨S2x4096x2048, .i1⟩
  | 101 => ⟨S2x4096x2048, .i1⟩
  | 102 => ⟨S1, .f32⟩
  | 103 => ⟨S_, .f32⟩
  | 104 => ⟨S2x4096x2048, .f32⟩
  | 105 => ⟨S2x4096x2048, .f32⟩
  | 106 => ⟨S1, .f32⟩
  | 107 => ⟨S_, .f32⟩
  | 108 => ⟨S1, .f32⟩
  | 109 => ⟨S_, .f32⟩
  | 110 => ⟨S2x4096x2048, .f32⟩
  | 111 => ⟨S2x4096x2048, .i1⟩
  | 112 => ⟨S2x4096x2048, .f32⟩
  | 113 => ⟨S2x4096x2048, .i1⟩
  | 114 => ⟨S2x4096x2048, .i1⟩
  | 115 => ⟨S1, .f32⟩
  | 116 => ⟨S_, .f32⟩
  | 117 => ⟨S2x4096x2048, .f32⟩
  | 118 => ⟨S2x4096x2048, .f32⟩
  | 119 => ⟨S1, .f32⟩
  | 120 => ⟨S_, .f32⟩
  | 121 => ⟨S1, .f32⟩
  | 122 => ⟨S_, .f32⟩
  | 123 => ⟨S2x4096x2048, .f32⟩
  | 124 => ⟨S2x4096x2048, .i1⟩
  | 125 => ⟨S2x4096x2048, .f32⟩
  | 126 => ⟨S2x4096x2048, .i1⟩
  | 127 => ⟨S2x4096x2048, .i1⟩
  | _ => ⟨S2x4096x2048, .f32⟩

abbrev hbmTy0_1 (i : Nat) : BufTy := match i % 128 with
  | 0 => ⟨S1, .f32⟩
  | 1 => ⟨S_, .f32⟩
  | 2 => ⟨S2x4096x2048, .f32⟩
  | 3 => ⟨S2x4096x2048, .f32⟩
  | 4 => ⟨S1, .f32⟩
  | 5 => ⟨S_, .f32⟩
  | 6 => ⟨S1, .f32⟩
  | 7 => ⟨S_, .f32⟩
  | 8 => ⟨S2x4096x2048, .f32⟩
  | 9 => ⟨S2x4096x2048, .i1⟩
  | 10 => ⟨S2x4096x2048, .f32⟩
  | 11 => ⟨S2x4096x2048, .i1⟩
  | 12 => ⟨S2x4096x2048, .i1⟩
  | 13 => ⟨S1, .f32⟩
  | 14 => ⟨S_, .f32⟩
  | 15 => ⟨S2x4096x2048, .f32⟩
  | 16 => ⟨S2x4096x2048, .f32⟩
  | 17 => ⟨S1, .f32⟩
  | 18 => ⟨S_, .f32⟩
  | 19 => ⟨S1, .f32⟩
  | 20 => ⟨S_, .f32⟩
  | 21 => ⟨S2x4096x2048, .f32⟩
  | 22 => ⟨S2x4096x2048, .i1⟩
  | 23 => ⟨S2x4096x2048, .f32⟩
  | 24 => ⟨S2x4096x2048, .i1⟩
  | 25 => ⟨S2x4096x2048, .i1⟩
  | 26 => ⟨S1, .f32⟩
  | 27 => ⟨S_, .f32⟩
  | 28 => ⟨S2x4096x2048, .f32⟩
  | 29 => ⟨S2x4096x2048, .f32⟩
  | 30 => ⟨S1, .f32⟩
  | 31 => ⟨S_, .f32⟩
  | 32 => ⟨S1, .f32⟩
  | 33 => ⟨S_, .f32⟩
  | 34 => ⟨S2x4096x2048, .f32⟩
  | 35 => ⟨S2x4096x2048, .i1⟩
  | 36 => ⟨S2x4096x2048, .f32⟩
  | 37 => ⟨S2x4096x2048, .i1⟩
  | 38 => ⟨S2x4096x2048, .i1⟩
  | 39 => ⟨S1, .f32⟩
  | 40 => ⟨S_, .f32⟩
  | 41 => ⟨S2x4096x2048, .f32⟩
  | 42 => ⟨S2x4096x2048, .f32⟩
  | 43 => ⟨S1, .f32⟩
  | 44 => ⟨S_, .f32⟩
  | 45 => ⟨S1, .f32⟩
  | 46 => ⟨S_, .f32⟩
  | 47 => ⟨S2x4096x2048, .f32⟩
  | 48 => ⟨S2x4096x2048, .i1⟩
  | 49 => ⟨S2x4096x2048, .f32⟩
  | 50 => ⟨S2x4096x2048, .i1⟩
  | 51 => ⟨S2x4096x2048, .i1⟩
  | 52 => ⟨S1, .f32⟩
  | 53 => ⟨S_, .f32⟩
  | 54 => ⟨S2x4096x2048, .f32⟩
  | 55 => ⟨S2x4096x2048, .f32⟩
  | 56 => ⟨S1, .f32⟩
  | 57 => ⟨S_, .f32⟩
  | 58 => ⟨S1, .f32⟩
  | 59 => ⟨S_, .f32⟩
  | 60 => ⟨S2x4096x2048, .f32⟩
  | 61 => ⟨S2x4096x2048, .i1⟩
  | 62 => ⟨S2x4096x2048, .f32⟩
  | 63 => ⟨S2x4096x2048, .i1⟩
  | 64 => ⟨S2x4096x2048, .i1⟩
  | 65 => ⟨S1, .f32⟩
  | 66 => ⟨S_, .f32⟩
  | 67 => ⟨S2x4096x2048, .f32⟩
  | 68 => ⟨S2x4096x2048, .f32⟩
  | 69 => ⟨S1, .f32⟩
  | 70 => ⟨S_, .f32⟩
  | 71 => ⟨S1, .f32⟩
  | 72 => ⟨S_, .f32⟩
  | 73 => ⟨S2x4096x2048, .f32⟩
  | 74 => ⟨S2x4096x2048, .i1⟩
  | 75 => ⟨S2x4096x2048, .f32⟩
  | 76 => ⟨S2x4096x2048, .i1⟩
  | 77 => ⟨S2x4096x2048, .i1⟩
  | 78 => ⟨S1, .f32⟩
  | 79 => ⟨S_, .f32⟩
  | 80 => ⟨S2x4096x2048, .f32⟩
  | 81 => ⟨S2x4096x2048, .f32⟩
  | 82 => ⟨S1, .f32⟩
  | 83 => ⟨S_, .f32⟩
  | 84 => ⟨S2x4096x2048, .f32⟩
  | 85 => ⟨S2x4096x2048, .i1⟩
  | 86 => ⟨S_, .f32⟩
  | 87 => ⟨S2x4096x2048, .f32⟩
  | 88 => ⟨S2x4096x2048, .i1⟩
  | 89 => ⟨S2x4096x2048, .i1⟩
  | 90 => ⟨S1, .f32⟩
  | 91 => ⟨S_, .f32⟩
  | 92 => ⟨S2x4096x2048, .f32⟩
  | 93 => ⟨S2x4096x2048, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_call1_v0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call2_v0 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_call3_v0 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_call4_v0 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_call5_v0 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_call6_v0 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_call7_v0 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_call8_v0 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_call9_v0 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_call10_v0 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_call11_v0 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_call12_v0 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_call13_v0 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_call14_v0 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_call15_v0 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_cst_0 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_call16_v0 : Ref sig .tc := ⟨.hbm, 220, rfl⟩
abbrev main_v199 : Ref sig .tc := ⟨.hbm, 221, rfl⟩

abbrev nD : Nat := 1
abbrev τ : Topo := Topo.v7x

variable {F : FTy → Type} [FloatOps F]
-- ==== Proof.Common.lean ====
/-
  What every module of the proof shares: the program as the launch theorem sees it, the resource algebra, and the scalar
  function that the kernel applies to each number (`cell`), which each of the generated payloads applies lane by lane.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the counters of the local copies -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Tiles -/

abbrev cV (L : grid0.Coords) : Fin τ.nSC := (L 0).castLE hcore0
abbrev jV (L : grid0.Coords) : Fin τ.nSub := (L 1).castLE hsub0
/-- The thread of the tile at coordinates `L` (SparseCore, subcore) of device `d`. -/
abbrev tl (d : Dev nD) (L : grid0.Coords) : Thread nD τ := V d (cV L) (jV L)

/-! ## The scalar function -/

variable [FloatOps F]

/-- What the kernel makes of one number `x`: with `y = min (max (8 x) ½) 8½` and `n` its integer part, `n / 8` where
    `y > n` and `(n - 1) / 8` where not. -/
def cell (x : F .f32) : F .f32 :=
  FloatOps.mulf
    (FloatOps.sitofp .f32
      (Scalar.select
        (FloatOps.cmpf .ogt
          (FloatOps.minimumf (FloatOps.maximumf (FloatOps.mulf x (Scalar.ofBits .f32 0x41000000#32)) (Scalar.ofBits .f32 0x3F000000#32)) (Scalar.ofBits .f32 0x41080000#32))
          (FloatOps.sitofp .f32 (FloatOps.fptosi 32
            (FloatOps.minimumf (FloatOps.maximumf (FloatOps.mulf x (Scalar.ofBits .f32 0x41000000#32)) (Scalar.ofBits .f32 0x3F000000#32)) (Scalar.ofBits .f32 0x41080000#32)))))
        (FloatOps.fptosi 32
          (FloatOps.minimumf (FloatOps.maximumf (FloatOps.mulf x (Scalar.ofBits .f32 0x41000000#32)) (Scalar.ofBits .f32 0x3F000000#32)) (Scalar.ofBits .f32 0x41080000#32)))
        (IntOp.subi (FloatOps.fptosi 32
          (FloatOps.minimumf (FloatOps.maximumf (FloatOps.mulf x (Scalar.ofBits .f32 0x41000000#32)) (Scalar.ofBits .f32 0x3F000000#32)) (Scalar.ofBits .f32 0x41080000#32))) 1#32)))
    (Scalar.ofBits .f32 0x3E000000#32)

omit [FloatOps F] in
/-- A row of sixteen read through its flat shape and back is itself. -/
theorem flat_back (v : Vec F S1x16 .f32) (j : S1x16.Idx) :
    v (Shape.reshapeEquiv shapeCasts_S1x16_S16 (Shape.reshapeEquiv shapeCasts_S16_S1x16 j)) = v j := by
  rw [Shape.reshapeEquiv_reshapeEquiv, Shape.reshapeEquiv_self]

theorem pay3_apply (v : Vec F S1x16 .f32) (j : S1x16.Idx) : k0_pay3 (F := F) v j = cell (v j) := congrArg cell (flat_back v j)
theorem pay8_apply (v : Vec F S1x16 .f32) (j : S1x16.Idx) : k0_pay8 (F := F) (k0_pay5 v) (k0_pay6 v) k0_pay7 j = cell (v j) := congrArg cell (flat_back v j)
theorem pay9_apply (v : Vec F S1x16 .f32) (j : S1x16.Idx) : k0_pay9 (F := F) v j = cell (v j) := congrArg cell (flat_back v j)
theorem pay11_apply (v : Vec F S1x16 .f32) (j : S1x16.Idx) : k0_pay11 (F := F) (k0_pay10 v) j = cell (v j) := congrArg cell (flat_back v j)
theorem pay12_apply (v : Vec F S1x16 .f32) (j : S1x16.Idx) : k0_pay12 (F := F) v j = cell (v j) := congrArg cell (flat_back v j)
theorem pay13_apply (v : Vec F S1x16 .f32) (j : S1x16.Idx) : k0_pay13 (F := F) v j = cell (v j) := congrArg cell (flat_back v j)
theorem pay27_apply (v : Vec F S1x16 .f32) (j : S1x16.Idx) : k0_pay27 (F := F) (k0_pay14 v) j = cell (v j) := congrArg cell (flat_back v j)
theorem pay28_apply (v : Vec F S1x16 .f32) (j : S1x16.Idx) : k0_pay28 (F := F) v j = cell (v j) := congrArg cell (flat_back v j)
theorem pay15_apply (v : Vec F S1x16 .f32) (j : S1x16.Idx) : k0_pay15 (F := F) v j = cell (v j) := congrArg cell (flat_back v j)
theorem pay20_apply (v : Vec F S1x16 .f32) (j : S1x16.Idx) : k0_pay20 (F := F) (k0_pay17 v) (k0_pay18 v) k0_pay19 j = cell (v j) := congrArg cell (flat_back v j)
theorem pay21_apply (v : Vec F S1x16 .f32) (j : S1x16.Idx) : k0_pay21 (F := F) v j = cell (v j) := congrArg cell (flat_back v j)
theorem pay23_apply (v : Vec F S1x16 .f32) (j : S1x16.Idx) : k0_pay23 (F := F) (k0_pay22 v) j = cell (v j) := congrArg cell (flat_back v j)
theorem pay24_apply (v : Vec F S1x16 .f32) (j : S1x16.Idx) : k0_pay24 (F := F) v j = cell (v j) := congrArg cell (flat_back v j)
theorem pay25_apply (v : Vec F S1x16 .f32) (j : S1x16.Idx) : k0_pay25 (F := F) v j = cell (v j) := congrArg cell (flat_back v j)
theorem pay1_apply (v : Vec F S1x16 .f32) (j : S1x16.Idx) : k0_pay1 (F := F) (k0_pay26 v) j = cell (v j) := congrArg cell (flat_back v j)
theorem pay2_apply (v : Vec F S1x16 .f32) (j : S1x16.Idx) : k0_pay2 (F := F) v j = cell (v j) := congrArg cell (flat_back v j)

end Cert.Proof.Tile

end
-- ==== Proof.Geo.lean ====
/-
  The blocks of the two arrays in HBM. The array of shape 2×512×8×2048 is dealt to the tiles by SparseCore and by runs of
  thirty-two blocks; `rng L a b` is the part of tile `L` that lies in its blocks `a ≤ · < b`, and the memref of one block
  addresses `rng L t (t + 1)`.
-/
module

public import proofs.«01_k».proof.Proof.Common
public import Idealize.ShloMosaic.Lib.ValueLayout

@[expose] public section

noncomputable section

namespace Cert.Proof.Tile

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Runs of a tile's blocks -/

/-- The places of the array that lie in blocks `a ≤ · < b` of tile `L`. -/
def rng (L : grid0.Coords) (a b : ℕ) : Finset S2x512x8x2048.Idx :=
  Finset.univ.filter fun x => (x 0).val = (L 0).val ∧ 32 * (L 1).val + a ≤ (x 1).val ∧ (x 1).val < 32 * (L 1).val + b

theorem mem_rng {L : grid0.Coords} {a b : ℕ} {x : S2x512x8x2048.Idx} :
    x ∈ rng L a b ↔ (x 0).val = (L 0).val ∧ 32 * (L 1).val + a ≤ (x 1).val ∧ (x 1).val < 32 * (L 1).val + b := by
  simp only [rng, Finset.mem_filter, Finset.mem_univ, true_and]

theorem rng_empty (L : grid0.Coords) {a b : ℕ} (h : b ≤ a) : rng L a b = ∅ :=
  Finset.eq_empty_of_forall_notMem fun x hx => by have := mem_rng.mp hx; omega

theorem rng_append (L : grid0.Coords) {a b c : ℕ} (hab : a ≤ b) (hbc : b ≤ c) : rng L a c = rng L a b ∪ rng L b c := by
  ext x; simp only [Finset.mem_union, mem_rng]; omega

theorem rng_disjoint (L : grid0.Coords) (a b c : ℕ) : Disjoint (rng L a b) (rng L b c) :=
  Finset.disjoint_left.mpr fun x h h' => by have := mem_rng.mp h; have := mem_rng.mp h'; omega

/-! ## One block -/

/-- The place of block `t` of tile `L` that the block's memref has at `y` (the block number taken inside the array, so
    that it needs no bound on `t`). -/
def pl (L : grid0.Coords) (t : ℕ) (y : S8x2048.Idx) : S2x512x8x2048.Idx :=
  ix4 (⟨(L 0).val, (L 0).isLt⟩ : Fin 2) (⟨(32 * (L 1).val + t) % 512, Nat.mod_lt _ (by decide)⟩ : Fin 512) (y 0) (y 1)

/-- The rectangle of one block. -/
abbrev blkRect (off : Fin 4 → ℕ) (inb : ∀ a, off a + S1x1x8x2048.size a ≤ S2x512x8x2048.size a) : Rect S2x512x8x2048 :=
  Rect.unit (s := S2x512x8x2048) off S1x1x8x2048.size inb

theorem mem_blkRect {off : Fin 4 → ℕ} (inb : ∀ a, off a + S1x1x8x2048.size a ≤ S2x512x8x2048.size a) {L : grid0.Coords} {t : ℕ}
    (h : off = ![(L 0).val, 32 * (L 1).val + t, 0, 0]) (x : S2x512x8x2048.Idx) :
    x ∈ (blkRect off inb).set ↔ x ∈ rng L t (t + 1) := by
  subst h
  rw [Rect.mem_set_unit, mem_rng]
  constructor
  · intro h
    have h0 : (L 0).val ≤ (x 0).val ∧ (x 0).val < (L 0).val + 1 := h 0
    have h1 : 32 * (L 1).val + t ≤ (x 1).val ∧ (x 1).val < 32 * (L 1).val + t + 1 := h 1
    omega
  · rintro ⟨h0, h1, h2⟩ a
    match a with
    | ⟨0, _⟩ => show (L 0).val ≤ (x 0).val ∧ (x 0).val < (L 0).val + 1; omega
    | ⟨1, _⟩ => show 32 * (L 1).val + t ≤ (x 1).val ∧ (x 1).val < 32 * (L 1).val + t + 1; omega
    | ⟨2, _⟩ => exact ⟨Nat.zero_le _, (show (x 2).val < 0 + 8 from by have := (x 2).isLt; simpa using this)⟩
    | ⟨3, _⟩ => exact ⟨Nat.zero_le _, (show (x 3).val < 0 + 2048 from by have := (x 3).isLt; simpa using this)⟩

/-- The block's memref has at `y` the place `pl L t y`. -/
theorem emb_blk {off : Fin 4 → ℕ} (inb : ∀ a, off a + S1x1x8x2048.size a ≤ S2x512x8x2048.size a) {L : grid0.Coords} {t : ℕ} (ht : t < 32)
    (h : off = ![(L 0).val, 32 * (L 1).val + t, 0, 0]) (y : S8x2048.Idx) :
    (blkRect off inb).emb (Shape.reshapeEquiv squeezes_S1x1x8x2048_S8x2048.numel_eq y) = pl L t y := by
  subst h
  have hy : Shape.reshapeEquiv squeezes_S1x1x8x2048_S8x2048.numel_eq y = ix4 (0 : Fin 1) (0 : Fin 1) (y 0) (y 1) := by
    refine Shape.reshapeEquiv_eq_of_rowMajor _ (((Shape.rowMajor_val_four (d := ![1, 1, 8, 2048]) _).trans ?_).trans (Shape.rowMajor_val_two (d := ![8, 2048]) y).symm)
    show (((0 * 1 + 0) * 8 + (y 0).val) * 2048 + (y 1).val) = (y 0).val * 2048 + (y 1).val
    simp only [Nat.zero_mul, Nat.zero_add]
  rw [hy]
  have h1 : (L 1).val < 16 := (L 1).isLt
  funext a
  refine Fin.ext ?_
  match a with
  | ⟨0, _⟩ => show (L 0).val + 1 * 0 = (L 0).val; omega
  | ⟨1, _⟩ => show 32 * (L 1).val + t + 1 * 0 = (32 * (L 1).val + t) % 512; omega
  | ⟨2, _⟩ => show 0 + 1 * (y 0).val = (y 0).val; omega
  | ⟨3, _⟩ => show 0 + 1 * (y 1).val = (y 1).val; omega

/-- The memref of one block of the kernel's operand and of its result. -/
abbrev inBlk (off : Fin 4 → ℕ) (inb : ∀ a, off a + S1x1x8x2048.size a ≤ S2x512x8x2048.size a) : Memref sig .scVector .hbm S8x2048 .f32 :=
  ((Memref.whole main_v0_scv).slice (Rect.unit (s := S2x512x8x2048) off S1x1x8x2048.size inb) (fun _ => rfl)).squeeze S8x2048 squeezes_S1x1x8x2048_S8x2048
abbrev outBlk (off : Fin 4 → ℕ) (inb : ∀ a, off a + S1x1x8x2048.size a ≤ S2x512x8x2048.size a) : Memref sig .scVector .hbm S8x2048 .f32 :=
  ((Memref.whole main_v1_scv).slice (Rect.unit (s := S2x512x8x2048) off S1x1x8x2048.size inb) (fun _ => rfl)).squeeze S8x2048 squeezes_S1x1x8x2048_S8x2048

section

variable {off : Fin 4 → ℕ} (inb : ∀ a, off a + S1x1x8x2048.size a ≤ S2x512x8x2048.size a) {L : grid0.Coords} {t : ℕ}

theorem set_inBlk (h : off = ![(L 0).val, 32 * (L 1).val + t, 0, 0]) : (inBlk off inb).view.set = rng L t (t + 1) := by
  ext x
  rw [← mem_blkRect inb h]
  simp only [View.set_reshape, View.set_slice_whole]
theorem set_outBlk (h : off = ![(L 0).val, 32 * (L 1).val + t, 0, 0]) : (outBlk off inb).view.set = rng L t (t + 1) := by
  ext x
  rw [← mem_blkRect inb h]
  simp only [View.set_reshape, View.set_slice_whole]

/-- What the operand's block holds. -/
theorem read_inBlk (ht : t < 32) (h : off = ![(L 0).val, 32 * (L 1).val + t, 0, 0]) (X : S2x512x8x2048.Idx → F .f32) :
    (inBlk off inb).view.read (Elt F) X = fun y => X (pl L t y) :=
  funext fun y => congrArg X (emb_blk inb ht h y)

/-- The result's block after a whole write of `w`. -/
theorem write_outBlk (ht : t < 32) (h : off = ![(L 0).val, 32 * (L 1).val + t, 0, 0]) (O : S2x512x8x2048.Idx → F .f32) (w : S8x2048.Idx → F .f32)
    (G : S2x512x8x2048.Idx → F .f32) (hG : ∀ y, w y = G (pl L t y)) :
    ∀ x ∈ rng L t (t + 1), (outBlk off inb).view.write (Elt F) O w Finset.univ x = G x := by
  intro x hx
  rw [← set_outBlk inb h] at hx
  obtain ⟨y, -, rfl⟩ := Finset.mem_map.mp hx
  rw [View.write_emb_of_mem _ _ (Finset.mem_univ y)]
  show w y = G ((blkRect off inb).emb (Shape.reshapeEquiv squeezes_S1x1x8x2048_S8x2048.numel_eq y))
  rw [emb_blk inb ht h, hG]

end

/-! ## The offsets and conditions that the kernel computes -/

theorem off1_0 (i : grid0.Coords) : k0_off1 i 0#32 = ![(i 0).val, 32 * (i 1).val + 0, 0, 0] := by
  revert i; decide +kernel
theorem off1_1 (i : grid0.Coords) : k0_off1 i 1#32 = ![(i 0).val, 32 * (i 1).val + 1, 0, 0] := by
  revert i; decide +kernel
theorem off2_0 (i : grid0.Coords) (k : Fin k0_t1_loop.trips) : k0_off2 i k 0#32 = ![(i 0).val, 32 * (i 1).val + 2 * k.val, 0, 0] :=
  k0_off2_eq i k 0
theorem off2_1 (i : grid0.Coords) (k : Fin k0_t1_loop.trips) : k0_off2 i k 1#32 = ![(i 0).val, 32 * (i 1).val + (2 * k.val + 1), 0, 0] :=
  k0_off2_eq i k 1
theorem off12 (i : grid0.Coords) (k : Fin k0_t1_loop.trips) : k0_off12 i k = ![(i 0).val, 32 * (i 1).val + (2 * k.val + 2), 0, 0] :=
  k0_off12_eq i k
theorem off22 (i : grid0.Coords) (k : Fin k0_t1_loop.trips) : k0_off22 i k = ![(i 0).val, 32 * (i 1).val + (2 * k.val + 3), 0, 0] :=
  k0_off22_eq i k

theorem cond1_iff (k : Fin k0_t1_loop.trips) : k0_cond1 k = 1#1 ↔ k.val ≠ 0 := by revert k; decide +kernel
theorem cond2_iff (k : Fin k0_t1_loop.trips) : k0_cond2 k = 1#1 ↔ k.val < 15 := by revert k; decide +kernel
theorem cond3_iff (k : Fin k0_t1_loop.trips) : k0_cond3 k = 1#1 ↔ k.val ≠ 0 := by revert k; decide +kernel
theorem cond4_iff (k : Fin k0_t1_loop.trips) : k0_cond4 k = 1#1 ↔ k.val < 15 := by revert k; decide +kernel
theorem trips1 : k0_t1_loop.trips = 16 := by decide +kernel

end Cert.Proof.Tile

end
-- ==== Proof.Copies.lean ====
/-
  The four moves of a tile's copies, each as one triple: a block's fetch is started, a fetch is waited for, a block's
  write-out is started, a write-out is waited for. A staging buffer is spoken of by what its memref reads.
-/
module

public import proofs.«01_k».proof.Proof.Geo

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- One statement, then the rest. -/
theorem wp_seq {c : Thread nD τ} {bd : Option (𝒱₀).V} {α β : Type} {p : Prog (TpuEff nD τ sig (Elt F) Λ₀ c.2) α} {k : α → Prog (TpuEff nD τ sig (Elt F) Λ₀ c.2) β}
    {P : sProp 𝕄} {R : α → sProp 𝕄} {Q : β → sProp 𝕄} (h : P ⊢ wp frame (wpE (defs₀ (F := F)) 𝒱₀ c bd) Set.univ p R) :
    P ⊢ iprop((∀ a, R a -∗ wp frame (wpE (defs₀ (F := F)) 𝒱₀ c bd) Set.univ (k a) Q)
      -∗ wp frame (wpE (defs₀ (F := F)) 𝒱₀ c bd) Set.univ (p >>= k) Q) := by
  rw [wp_bind]
  iintro HP HK
  iapply (wp_wand_r frame _)
  isplitl [HP]
  · iapply h; iexact HP
  · iexact HK

/-- A statement made under a condition, then the rest. -/
theorem wp_cond_seq {c : Thread nD τ} {bd : Option (𝒱₀).V} {β : Type} {q : Prop} [Decidable q] {p : q → Prog (TpuEff nD τ sig (Elt F) Λ₀ c.2) PUnit}
    {k : Prog (TpuEff nD τ sig (Elt F) Λ₀ c.2) β} {P R : sProp 𝕄} {Q : β → sProp 𝕄}
    (h : P ⊢ wp frame (wpE (defs₀ (F := F)) 𝒱₀ c bd) Set.univ (if h : q then p h else pure (⟨⟩ : PUnit)) fun _ => R) :
    P ⊢ iprop((R -∗ wp frame (wpE (defs₀ (F := F)) 𝒱₀ c bd) Set.univ k Q)
      -∗ wp frame (wpE (defs₀ (F := F)) 𝒱₀ c bd) Set.univ (if h : q then p h >>= fun _ => k else k) Q) := by
  have e : (if h : q then p h >>= fun _ => k else k) = (if h : q then p h else pure (⟨⟩ : PUnit)) >>= fun _ => k := by
    by_cases hq : q
    · rw [dif_pos hq, dif_pos hq]
    · rw [dif_neg hq, dif_neg hq]; rfl
  rw [e]
  refine (wp_seq h (k := fun _ => k) (Q := Q)).trans ?_
  iintro H HK
  iapply H
  iintro %_ HR
  iapply HK; iexact HR

variable (d : Dev nD) (L : grid0.Coords) (bd : Option (𝒱₀).V)

/-! ## What the buffers hold -/

abbrev inLoc : Loc nD τ sig := (Memref.whole main_v0_scv : Memref sig .scVector .hbm S2x512x8x2048 .f32).view.loc (tl d L)
abbrev outLoc : Loc nD τ sig := (Memref.whole main_v1_scv : Memref sig .scVector .hbm S2x512x8x2048 .f32).view.loc (tl d L)

/-- The operand holds `X` on the tile's blocks `a ≤ · < b`. -/
def InPts (X : S2x512x8x2048.Idx → F .f32) (a b : ℕ) : sProp 𝕄 := inLoc d L ↦[rng L a b]{fullShare} (X : Buf (Elt F) (inLoc d L))
/-- The result holds `G` on the tile's blocks `a ≤ · < b`. -/
def OutPts (G : S2x512x8x2048.Idx → F .f32) (a b : ℕ) : sProp 𝕄 := outLoc d L ↦[rng L a b]{fullShare} (G : Buf (Elt F) (outLoc d L))

theorem InPts_empty (X : S2x512x8x2048.Idx → F .f32) {a b : ℕ} (h : b ≤ a) : InPts d L X a b = iprop(emp) := by
  unfold InPts; rw [rng_empty L h, pointsTo_empty]
theorem OutPts_empty (X : S2x512x8x2048.Idx → F .f32) {a b : ℕ} (h : b ≤ a) : OutPts d L X a b = iprop(emp) := by
  unfold OutPts; rw [rng_empty L h, pointsTo_empty]
theorem InPts_append (X : S2x512x8x2048.Idx → F .f32) {a b c : ℕ} (hab : a ≤ b) (hbc : b ≤ c) :
    InPts d L X a c ⊣⊢ iprop(InPts d L X a b ∗ InPts d L X b c) := by
  unfold InPts; rw [rng_append L hab hbc]; exact pointsTo_union (rng_disjoint L a b c)
theorem OutPts_append (X : S2x512x8x2048.Idx → F .f32) {a b c : ℕ} (hab : a ≤ b) (hbc : b ≤ c) :
    OutPts d L X a c ⊣⊢ iprop(OutPts d L X a b ∗ OutPts d L X b c) := by
  unfold OutPts; rw [rng_append L hab hbc]; exact pointsTo_union (rng_disjoint L a b c)

variable (B : Memref sig .scVector .vmem S8x2048 .f32) (sem : DmaSem sig)

/-- The staging buffer `B` reads `A`. -/
def Holds (A : S8x2048.Idx → F .f32) : sProp 𝕄 :=
  iprop(∃ f : Buf (Elt F) (B.view.loc (tl d L)), ⌜B.view.read (Elt F) f = A⌝ ∗ B.view.loc (tl d L) ↦{fullShare} f)
/-- The staging buffer `B` and its copies' semaphore at rest. -/
def Rest : sProp 𝕄 := iprop((∃ f : Buf (Elt F) (B.view.loc (tl d L)), B.view.loc (tl d L) ↦{fullShare} f) ∗ semVal (tl d L, SemLoc.dma sem) 0)

/-- The credit of one block's write-out. -/
abbrev outN : ℕ := (outBlk (fun _ => 0) (by decide)).view.dmaCredit

/-- A fetch of block `t` under way into `B`. -/
def FlyIn (X : S2x512x8x2048.Idx → F .f32) (t : ℕ) : sProp 𝕄 :=
  Transfers.Flight countersEmb (tl d L) (.dma sem) (none : HIx 1) B.view.dmaCredit iprop(Holds d L B (fun y => X (pl L t y)) ∗ InPts d L X t (t + 1))
/-- A write-out of block `t` under way from `B`. -/
def FlyOut (G : S2x512x8x2048.Idx → F .f32) (t : ℕ) : sProp 𝕄 :=
  Transfers.Flight countersEmb (tl d L) (.dma sem) (none : HIx 1) outN
    iprop((∃ f : Buf (Elt F) (B.view.loc (tl d L)), B.view.loc (tl d L) ↦{fullShare} f) ∗ OutPts d L G t (t + 1))

/-- The fetch that is to bring block `t`: under way where there is such a block. -/
def InSt (X : S2x512x8x2048.Idx → F .f32) (t : ℕ) : sProp 𝕄 := if t < 32 then FlyIn d L B sem X t else Rest (F := F) d L B sem
/-- The write-out that has to end before block `t` may be put in `B`: of block `t - 2`, where there is such a block. -/
def OutSt (G : S2x512x8x2048.Idx → F .f32) (t : ℕ) : sProp 𝕄 := if 2 ≤ t then FlyOut d L B sem G (t - 2) else Rest (F := F) d L B sem

/-- What the tile owes, and that it may wait. -/
def OW (O : CellTallies nD τ sig (HIx 1)) (W : Waits sig (HIx 1)) : sProp 𝕄 :=
  iprop(Transfers.MayWaits (tl d L) (none : HIx 1) O ∗ ∃ W', ⌜∀ p ∈ W', p ∈ W ∨ p.2 = none⌝ ∗ owes (tl d L) O W')

/-! ## The moves -/

variable {off : Fin 4 → ℕ} {inb : ∀ a, off a + S1x1x8x2048.size a ≤ S2x512x8x2048.size a} {t : ℕ}

theorem start_in (hB : B.view.set = Finset.univ) (ht : t < 32) (h : off = ![(L 0).val, 32 * (L 1).val + t, 0, 0]) (X : S2x512x8x2048.Idx → F .f32)
    {hsrc : (inBlk off inb).view.WordExact} {hdst : B.view.WordExact}
    {hsem : (DmaTarget.here B : DmaTarget nD τ sig (tl d L).2 .vmem S8x2048 .f32).Typed .hbm (.dma sem)} :
    iprop(InPts d L X t 32 ∗ Rest (F := F) d L B sem)
      ⊢ wp frame (wpE (defs₀ (F := F)) 𝒱₀ (tl d L) bd) Set.univ (Prog.lift (.enqueueDma (inBlk off inb) (.here B) (.dma sem) hsrc hdst hsem))
          fun _ => iprop(InSt d L B sem X t ∗ InPts d L X (t + 1) 32) := by
  unfold Rest InSt FlyIn
  rw [if_pos ht]
  iintro ⟨Hin, ⟨%f, HB⟩, Hsem⟩
  ihave Hin := (InPts_append d L X (Nat.le_succ t) (show t + 1 ≤ 32 from ht)).1 $$ Hin
  icases Hin with ⟨Hin, Hrest⟩
  unfold InPts
  iapply (Transfers.wp_dmaLocal countersEmb 𝒱₀ (tl d L) bd (src := inBlk off inb) (dst := B) (q := fullShare) (fs := (X : Buf (Elt F) (inLoc d L)))
    (fd := f) (Sd := Finset.univ) (none : HIx 1) B.view.dmaCredit rfl (View.dmaCredit_pos _ (show 0 < S8x2048.numel by decide)) (Finset.subset_univ _)) $$ [Hin HB Hsem]
  · isplitl [Hin]
    · rw [set_inBlk inb h]; iexact Hin
    isplitl [HB]; · iexact HB
    iexact Hsem
  iintro HF
  rw [wp_ret]; imodintro
  isplitr [Hrest]
  · iapply (Transfers.Flight_mono countersEmb (tl d L) ?_) $$ HF
    rw [set_inBlk inb h]
    iintro ⟨HB, Hin⟩
    isplitl [HB]
    · unfold Holds
      iexists _
      isplitr
      rotate_left
      · iexact HB
      ipureintro
      rw [View.read_write_univ]
      exact read_inBlk inb ht h X
    · iexact Hin
  · iexact Hrest

/-- The fetch of block `t`, started where there is such a block. -/
theorem cond_start_in {c : Prop} [Decidable c] (hc : c ↔ t < 32) (hB : B.view.set = Finset.univ) {inb : c → ∀ a, off a + S1x1x8x2048.size a ≤ S2x512x8x2048.size a}
    (h : off = ![(L 0).val, 32 * (L 1).val + t, 0, 0]) (X : S2x512x8x2048.Idx → F .f32)
    {hsrc : ∀ h : c, (inBlk off (inb h)).view.WordExact} {hdst : B.view.WordExact}
    {hsem : (DmaTarget.here B : DmaTarget nD τ sig (tl d L).2 .vmem S8x2048 .f32).Typed .hbm (.dma sem)} :
    iprop(InPts d L X t 32 ∗ Rest (F := F) d L B sem)
      ⊢ wp frame (wpE (defs₀ (F := F)) 𝒱₀ (tl d L) bd) Set.univ
          (if h : c then Prog.lift (.enqueueDma (inBlk off (inb h)) (.here B) (.dma sem) (hsrc h) hdst hsem) else pure (⟨⟩ : PUnit))
          fun _ => iprop(InSt d L B sem X t ∗ InPts d L X (t + 1) 32) := by
  by_cases hh : c
  · rw [dif_pos hh]
    exact start_in d L bd B sem hB (hc.mp hh) h X
  · have ht : ¬ t < 32 := fun h => hh (hc.mpr h)
    rw [dif_neg hh, wp_pure]
    unfold InSt
    rw [if_neg ht, InPts_empty d L X (show 32 ≤ t by omega), InPts_empty d L X (show 32 ≤ t + 1 by omega)]
    iintro ⟨He, Hr⟩
    imodintro
    isplitl [Hr]; · iexact Hr
    iexact He

theorem wait_in (ht : t < 32) (X : S2x512x8x2048.Idx → F .f32) {O : CellTallies nD τ sig (HIx 1)} {W : Waits sig (HIx 1)}
    {hsrc : (inBlk off inb).view.WordExact} {hdst : B.view.WordExact} :
    iprop(InSt d L B sem X t ∗ InPts d L X 0 t ∗ OW (F := F) d L O W)
      ⊢ wp frame (wpE (defs₀ (F := F)) 𝒱₀ (tl d L) bd) Set.univ (Prog.lift (.waitDma2 sem (inBlk off inb) B hsrc hdst))
          fun _ => iprop(Holds d L B (fun y => X (pl L t y)) ∗ semVal (tl d L, SemLoc.dma sem) 0 ∗ InPts d L X 0 (t + 1) ∗ OW (F := F) d L O W) := by
  unfold InSt FlyIn OW
  rw [if_pos ht]
  iintro ⟨HF, Hin, #Hmw, %W', %hW', HO⟩
  iapply (Transfers.wp_waitLocalO countersEmb 𝒱₀ (tl d L) bd (none : HIx 1) (O := O) (W := W') rfl) $$ [HF HO]
  · isplitl [HF]; · iexact HF
    isplitl [HO]; · iexact HO
    iapply (Transfers.MayWaits.elim (SemLoc.dma sem)); iexact Hmw
  iintro ⟨⟨HB, Hb⟩, Hsem, HO⟩
  rw [wp_ret]; imodintro
  isplitl [HB]; · iexact HB
  isplitl [Hsem]; · iexact Hsem
  isplitl [Hin Hb]
  · iapply (InPts_append d L X (Nat.zero_le t) (Nat.le_succ t)).2
    isplitl [Hin]; · iexact Hin
    iexact Hb
  isplitr; · iexact Hmw
  iexists _
  isplitr
  rotate_left
  · iexact HO
  ipureintro
  intro p hp
  rcases Finset.mem_insert.mp hp with rfl | hp
  · exact .inr rfl
  · exact hW' p hp

theorem start_out (hB : B.view.set = Finset.univ) (ht : t < 32) (h : off = ![(L 0).val, 32 * (L 1).val + t, 0, 0]) (O₀ G : S2x512x8x2048.Idx → F .f32)
    {hsrc : B.view.WordExact} {hdst : (outBlk off inb).view.WordExact}
    {hsem : (DmaTarget.here (outBlk off inb) : DmaTarget nD τ sig (tl d L).2 .hbm S8x2048 .f32).Typed .vmem (.dma sem)} :
    iprop(Holds d L B (fun y => G (pl L t y)) ∗ semVal (tl d L, SemLoc.dma sem) 0 ∗ OutPts d L O₀ t 32)
      ⊢ wp frame (wpE (defs₀ (F := F)) 𝒱₀ (tl d L) bd) Set.univ (Prog.lift (.enqueueDma B (.here (outBlk off inb)) (.dma sem) hsrc hdst hsem))
          fun _ => iprop(OutSt d L B sem G (t + 2) ∗ OutPts d L O₀ (t + 1) 32) := by
  unfold Holds OutSt FlyOut
  rw [if_pos (show 2 ≤ t + 2 by omega), show t + 2 - 2 = t by omega]
  iintro ⟨⟨%f, %hf, HB⟩, Hsem, Hout⟩
  ihave Hout := (OutPts_append d L O₀ (Nat.le_succ t) (show t + 1 ≤ 32 from ht)).1 $$ Hout
  icases Hout with ⟨Hout, Hrest⟩
  unfold OutPts
  iapply (Transfers.wp_dmaLocal countersEmb 𝒱₀ (tl d L) bd (src := B) (dst := outBlk off inb) (q := fullShare) (fs := f)
    (fd := (O₀ : Buf (Elt F) (outLoc d L))) (Sd := rng L t (t + 1)) (none : HIx 1) outN rfl (View.dmaCredit_pos _ (show 0 < S8x2048.numel by decide))
    (le_of_eq (set_outBlk inb h))) $$ [Hout HB Hsem]
  · isplitl [HB]
    · rw [hB]; iexact HB
    isplitl [Hout]; · iexact Hout
    iexact Hsem
  iintro HF
  rw [wp_ret]; imodintro
  isplitr [Hrest]
  · iapply (Transfers.Flight_mono countersEmb (tl d L) ?_) $$ HF
    rw [hB, pointsTo_congr (write_outBlk inb ht h O₀ (B.view.read (Elt F) f) G fun y => congrFun hf y)]
    iintro ⟨Hout, HB⟩
    isplitl [HB]
    · iexists f; iexact HB
    · iexact Hout
  · iexact Hrest

theorem wait_out (ht : 2 ≤ t) (G : S2x512x8x2048.Idx → F .f32) {O : CellTallies nD τ sig (HIx 1)} {W : Waits sig (HIx 1)}
    {hsrc : B.view.WordExact} {hdst : (outBlk off inb).view.WordExact} :
    iprop(OutSt d L B sem G t ∗ OutPts d L G 0 (t - 2) ∗ OW (F := F) d L O W)
      ⊢ wp frame (wpE (defs₀ (F := F)) 𝒱₀ (tl d L) bd) Set.univ (Prog.lift (.waitDma2 sem B (outBlk off inb) hsrc hdst))
          fun _ => iprop(Rest (F := F) d L B sem ∗ OutPts d L G 0 (t - 1) ∗ OW (F := F) d L O W) := by
  unfold OutSt FlyOut OW Rest
  rw [if_pos ht]
  iintro ⟨HF, Hout, #Hmw, %W', %hW', HO⟩
  iapply (Transfers.wp_waitLocalO countersEmb 𝒱₀ (tl d L) bd (none : HIx 1) (O := O) (W := W') rfl) $$ [HF HO]
  · isplitl [HF]; · iexact HF
    isplitl [HO]; · iexact HO
    iapply (Transfers.MayWaits.elim (SemLoc.dma sem)); iexact Hmw
  iintro ⟨⟨HB, Hb⟩, Hsem, HO⟩
  rw [wp_ret]; imodintro
  isplitl [HB Hsem]
  · isplitl [HB]; · iexact HB
    iexact Hsem
  isplitl [Hout Hb]
  · rw [show t - 1 = t - 2 + 1 by omega]
    iapply (OutPts_append d L G (Nat.zero_le (t - 2)) (Nat.le_succ (t - 2))).2
    isplitl [Hout]; · iexact Hout
    iexact Hb
  isplitr; · iexact Hmw
  iexists _
  isplitr
  rotate_left
  · iexact HO
  ipureintro
  intro p hp
  rcases Finset.mem_insert.mp hp with rfl | hp
  · exact .inr rfl
  · exact hW' p hp

/-- The wait for the write-out of block `t - 2`, made where there is such a block. -/
theorem cond_wait_out {c : Prop} [Decidable c] (hc : c ↔ 2 ≤ t) {inb : c → ∀ a, off a + S1x1x8x2048.size a ≤ S2x512x8x2048.size a}
    (G : S2x512x8x2048.Idx → F .f32) {O : CellTallies nD τ sig (HIx 1)} {W : Waits sig (HIx 1)}
    {hsrc : B.view.WordExact} {hdst : ∀ h : c, (outBlk off (inb h)).view.WordExact} :
    iprop(OutSt d L B sem G t ∗ OutPts d L G 0 (t - 2) ∗ OW (F := F) d L O W)
      ⊢ wp frame (wpE (defs₀ (F := F)) 𝒱₀ (tl d L) bd) Set.univ
          (if h : c then Prog.lift (.waitDma2 sem B (outBlk off (inb h)) hsrc (hdst h)) else pure (⟨⟩ : PUnit))
          fun _ => iprop(Rest (F := F) d L B sem ∗ OutPts d L G 0 (t - 1) ∗ OW (F := F) d L O W) := by
  by_cases hh : c
  · rw [dif_pos hh]
    exact wait_out d L bd B sem (hc.mp hh) G
  · have ht : ¬ 2 ≤ t := fun h => hh (hc.mpr h)
    rw [dif_neg hh, wp_pure]
    unfold OutSt
    rw [if_neg ht, show t - 2 = 0 by omega, show t - 1 = 0 by omega]
    iintro ⟨Hr, Ho, HO⟩
    imodintro
    isplitl [Hr]; · iexact Hr
    isplitl [Ho]; · iexact Ho
    iexact HO

end Cert.Proof.Tile

end
-- ==== Proof.Inner.lean ====
/-
  The two inner loops of a tile: each reads one staged chunk, eight rows of 2048 numbers, sixteen lanes of each row a
  trip, and leaves `cell` of every number in the other buffer. The invariant says so of the lanes that the trips so far
  have passed.
-/
module

public import proofs.«01_k».proof.Proof.Common

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## One trip's eight stores -/

/-- The rectangle of sixteen lanes of row `r` that starts at lane `16 k` holds exactly those places. -/
theorem mem_lanes {off : Fin 2 → ℕ} (inb : ∀ a : Fin 2, off a + S1x16.size a ≤ S8x2048.size a) {r k : ℕ} (h : off = ![r, 16 * k]) (y : S8x2048.Idx) :
    y ∈ (Rect.unit (s := S8x2048) off S1x16.size inb).set ↔ (y 0).val = r ∧ 16 * k ≤ (y 1).val ∧ (y 1).val < 16 * k + 16 := by
  subst h
  rw [Rect.mem_set_unit]
  constructor
  · intro h
    have h0 := h 0; have h1 := h 1
    simp only [Matrix.cons_val_zero, Matrix.cons_val_one, show S1x16.size 0 = 1 from rfl, show S1x16.size 1 = 16 from rfl] at h0 h1
    omega
  · rintro ⟨h0, h1, h2⟩ a
    match a with
    | ⟨0, _⟩ => show r ≤ (y 0).val ∧ (y 0).val < r + 1; omega
    | ⟨1, _⟩ => show 16 * k ≤ (y 1).val ∧ (y 1).val < 16 * k + 16; omega

/-- Eight stores, one a row, of `G`'s values on the sixteen lanes from `16 k`, over contents that are `G` on the lanes
    before: `G` on the lanes before `16 (k + 1)`. -/
theorem rows_step {κ : Kind} {sp : Space} (v : View sig κ sp S8x2048 .f32) (f : v.ty.Contents (Elt F)) (G : S8x2048.Idx → Elt F .f32) (k : ℕ)
    (hf : ∀ y : S8x2048.Idx, (y 1).val < 16 * k → v.read (Elt F) f y = G y)
    {o0 o1 o2 o3 o4 o5 o6 o7 : Fin 2 → ℕ}
    (i0 : ∀ a : Fin 2, o0 a + S1x16.size a ≤ S8x2048.size a) (i1 : ∀ a : Fin 2, o1 a + S1x16.size a ≤ S8x2048.size a)
    (i2 : ∀ a : Fin 2, o2 a + S1x16.size a ≤ S8x2048.size a) (i3 : ∀ a : Fin 2, o3 a + S1x16.size a ≤ S8x2048.size a)
    (i4 : ∀ a : Fin 2, o4 a + S1x16.size a ≤ S8x2048.size a) (i5 : ∀ a : Fin 2, o5 a + S1x16.size a ≤ S8x2048.size a)
    (i6 : ∀ a : Fin 2, o6 a + S1x16.size a ≤ S8x2048.size a) (i7 : ∀ a : Fin 2, o7 a + S1x16.size a ≤ S8x2048.size a)
    (e0 : o0 = ![0, 16 * k]) (e1 : o1 = ![1, 16 * k]) (e2 : o2 = ![2, 16 * k]) (e3 : o3 = ![3, 16 * k])
    (e4 : o4 = ![4, 16 * k]) (e5 : o5 = ![5, 16 * k]) (e6 : o6 = ![6, 16 * k]) (e7 : o7 = ![7, 16 * k])
    {w0 : (Rect.unit (s := S8x2048) o0 S1x16.size i0).shape.Idx → Elt F .f32} {w1 : (Rect.unit (s := S8x2048) o1 S1x16.size i1).shape.Idx → Elt F .f32}
    {w2 : (Rect.unit (s := S8x2048) o2 S1x16.size i2).shape.Idx → Elt F .f32} {w3 : (Rect.unit (s := S8x2048) o3 S1x16.size i3).shape.Idx → Elt F .f32}
    {w4 : (Rect.unit (s := S8x2048) o4 S1x16.size i4).shape.Idx → Elt F .f32} {w5 : (Rect.unit (s := S8x2048) o5 S1x16.size i5).shape.Idx → Elt F .f32}
    {w6 : (Rect.unit (s := S8x2048) o6 S1x16.size i6).shape.Idx → Elt F .f32} {w7 : (Rect.unit (s := S8x2048) o7 S1x16.size i7).shape.Idx → Elt F .f32}
    (h0 : ∀ x, w0 x = G ((Rect.unit (s := S8x2048) o0 S1x16.size i0).emb x)) (h1 : ∀ x, w1 x = G ((Rect.unit (s := S8x2048) o1 S1x16.size i1).emb x))
    (h2 : ∀ x, w2 x = G ((Rect.unit (s := S8x2048) o2 S1x16.size i2).emb x)) (h3 : ∀ x, w3 x = G ((Rect.unit (s := S8x2048) o3 S1x16.size i3).emb x))
    (h4 : ∀ x, w4 x = G ((Rect.unit (s := S8x2048) o4 S1x16.size i4).emb x)) (h5 : ∀ x, w5 x = G ((Rect.unit (s := S8x2048) o5 S1x16.size i5).emb x))
    (h6 : ∀ x, w6 x = G ((Rect.unit (s := S8x2048) o6 S1x16.size i6).emb x)) (h7 : ∀ x, w7 x = G ((Rect.unit (s := S8x2048) o7 S1x16.size i7).emb x))
    (y : S8x2048.Idx) (hy : (y 1).val < 16 * (k + 1)) :
    v.read (Elt F) (v.writes (Elt F) f [⟨Rect.unit (s := S8x2048) o7 S1x16.size i7, w7⟩, ⟨Rect.unit (s := S8x2048) o6 S1x16.size i6, w6⟩,
      ⟨Rect.unit (s := S8x2048) o5 S1x16.size i5, w5⟩, ⟨Rect.unit (s := S8x2048) o4 S1x16.size i4, w4⟩,
      ⟨Rect.unit (s := S8x2048) o3 S1x16.size i3, w3⟩, ⟨Rect.unit (s := S8x2048) o2 S1x16.size i2, w2⟩,
      ⟨Rect.unit (s := S8x2048) o1 S1x16.size i1, w1⟩, ⟨Rect.unit (s := S8x2048) o0 S1x16.size i0, w0⟩]) y = G y := by
  by_cases hk : (y 1).val < 16 * k
  · rw [View.read_writes_apply_of_forall_not_mem]
    · exact hf y hk
    · simp only [List.mem_cons, List.not_mem_nil, or_false, forall_eq_or_imp, forall_eq,
        mem_lanes i0 e0, mem_lanes i1 e1, mem_lanes i2 e2, mem_lanes i3 e3, mem_lanes i4 e4, mem_lanes i5 e5, mem_lanes i6 e6, mem_lanes i7 e7]
      refine ⟨?_, ?_, ?_, ?_, ?_, ?_, ?_, ?_⟩ <;> omega
  · refine View.read_writes_apply_of_pieces v f G _ ?_ y ?_
    · simp only [List.mem_cons, List.not_mem_nil, or_false, forall_eq_or_imp, forall_eq]
      exact ⟨h7, h6, h5, h4, h3, h2, h1, h0⟩
    · simp only [List.mem_cons, List.not_mem_nil, or_false, exists_eq_or_imp, exists_eq_left,
        mem_lanes i0 e0, mem_lanes i1 e1, mem_lanes i2 e2, mem_lanes i3 e3, mem_lanes i4 e4, mem_lanes i5 e5, mem_lanes i6 e6, mem_lanes i7 e7]
      have : (y 0).val < 8 := (y 0).isLt
      omega

/-! ## The loops -/

variable (d : Dev nD) (L : grid0.Coords)

/-- `cell` at every place of a chunk. -/
abbrev cells (A : S8x2048.Idx → F .f32) : S8x2048.Idx → F .f32 := fun y => cell (A y)

/-- The first loop's invariant: the staged chunk as it came, the other buffer `cell` of it on the lanes passed. -/
def inv2 (A : S8x2048.Idx → F .f32) (k : ℕ) (_ : Unit) : sProp 𝕄 :=
  iprop(((Memref.whole cc0_scratch0).view.loc (tl d L) ↦{fullShare} (A : Buf (Elt F) ((Memref.whole cc0_scratch0).view.loc (tl d L))))
    ∗ ∃ f : S8x2048.Idx → F .f32, ⌜∀ y : S8x2048.Idx, (y 1).val < 16 * k → f y = cells A y⌝
      ∗ (Memref.whole cc0_scratch2).view.loc (tl d L) ↦{fullShare} (f : Buf (Elt F) ((Memref.whole cc0_scratch2).view.loc (tl d L))))

theorem loop2 (bd : Option (𝒱₀).V) (v0 c0 c1 : BitVec 32) (k1 : Fin k0_t1_loop.trips) (A B : S8x2048.Idx → F .f32) :
    iprop(((Memref.whole cc0_scratch0).view.loc (tl d L) ↦{fullShare} (A : Buf (Elt F) ((Memref.whole cc0_scratch0).view.loc (tl d L))))
        ∗ (Memref.whole cc0_scratch2).view.loc (tl d L) ↦{fullShare} (B : Buf (Elt F) ((Memref.whole cc0_scratch2).view.loc (tl d L))))
      ⊢ wp frame (wpE (defs₀ (F := F)) 𝒱₀ (tl d L) bd) Set.univ
          (Scf.Loop.for k0_t2_loop k0_t2_ok ⟨⟩ (k0_t2_body L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 v0 c0 c1 k1))
          fun _ => (iprop(((Memref.whole cc0_scratch0).view.loc (tl d L) ↦{fullShare} (A : Buf (Elt F) ((Memref.whole cc0_scratch0).view.loc (tl d L))))
            ∗ (Memref.whole cc0_scratch2).view.loc (tl d L) ↦{fullShare} (cells A : Buf (Elt F) ((Memref.whole cc0_scratch2).view.loc (tl d L)))) : sProp 𝕄) := by
  iintro ⟨HA, HB⟩
  sl_for (inv2 (F := F) d L A) $$ [HA HB]
  case region =>
    intro k _
    unfold inv2
    iintro ⟨HA, %f, %hf, HB⟩
    sl_exec
    sl_step
    isplitl [HA]; · iexact HA
    iexists _
    isplitr
    rotate_left
    · iexact HB
    ipureintro
    exact rows_step (Memref.whole cc0_scratch2).view f (cells A) k.val hf _ _ _ _ _ _ _ _
      (k0_off4_eq k) (k0_off5_eq k) (k0_off6_eq k) (k0_off7_eq k) (k0_off8_eq k) (k0_off9_eq k) (k0_off10_eq k) (k0_off11_eq k)
      (fun x => pay3_apply _ x) (fun x => pay8_apply _ x) (fun x => pay9_apply _ x) (fun x => pay11_apply _ x)
      (fun x => pay12_apply _ x) (fun x => pay13_apply _ x) (fun x => pay27_apply _ x) (fun x => pay28_apply _ x)
  unfold inv2
  isplitl [HA HB]
  · isplitl [HA]; · iexact HA
    iexists B
    isplitr
    · ipureintro; intro y hy; exact absurd hy (Nat.not_lt_zero _)
    · iexact HB
  iintro %_ ⟨HA, %f, %hf, HB⟩
  isplitl [HA]; · iexact HA
  rw [show f = cells A from funext fun y => hf y (y 1).isLt]
  iexact HB

/-- The second loop's invariant: the staged chunk as it came, the other buffer `cell` of it on the lanes passed. -/
def inv3 (A : S8x2048.Idx → F .f32) (k : ℕ) (_ : Unit) : sProp 𝕄 :=
  iprop(((Memref.whole cc0_scratch1).view.loc (tl d L) ↦{fullShare} (A : Buf (Elt F) ((Memref.whole cc0_scratch1).view.loc (tl d L))))
    ∗ ∃ f : S8x2048.Idx → F .f32, ⌜∀ y : S8x2048.Idx, (y 1).val < 16 * k → f y = cells A y⌝
      ∗ (Memref.whole cc0_scratch3).view.loc (tl d L) ↦{fullShare} (f : Buf (Elt F) ((Memref.whole cc0_scratch3).view.loc (tl d L))))

theorem loop3 (bd : Option (𝒱₀).V) (A B : S8x2048.Idx → F .f32) :
    iprop(((Memref.whole cc0_scratch1).view.loc (tl d L) ↦{fullShare} (A : Buf (Elt F) ((Memref.whole cc0_scratch1).view.loc (tl d L))))
        ∗ (Memref.whole cc0_scratch3).view.loc (tl d L) ↦{fullShare} (B : Buf (Elt F) ((Memref.whole cc0_scratch3).view.loc (tl d L))))
      ⊢ wp frame (wpE (defs₀ (F := F)) 𝒱₀ (tl d L) bd) Set.univ
          (Scf.Loop.for k0_t3_loop k0_t3_ok ⟨⟩ (k0_t3_body L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7))
          fun _ => (iprop(((Memref.whole cc0_scratch1).view.loc (tl d L) ↦{fullShare} (A : Buf (Elt F) ((Memref.whole cc0_scratch1).view.loc (tl d L))))
            ∗ (Memref.whole cc0_scratch3).view.loc (tl d L) ↦{fullShare} (cells A : Buf (Elt F) ((Memref.whole cc0_scratch3).view.loc (tl d L)))) : sProp 𝕄) := by
  iintro ⟨HA, HB⟩
  sl_for (inv3 (F := F) d L A) $$ [HA HB]
  case region =>
    intro k _
    unfold inv3
    iintro ⟨HA, %f, %hf, HB⟩
    sl_exec
    sl_step
    isplitl [HA]; · iexact HA
    iexists _
    isplitr
    rotate_left
    · iexact HB
    ipureintro
    exact rows_step (Memref.whole cc0_scratch3).view f (cells A) k.val hf _ _ _ _ _ _ _ _
      (k0_off14_eq k) (k0_off15_eq k) (k0_off16_eq k) (k0_off17_eq k) (k0_off18_eq k) (k0_off19_eq k) (k0_off20_eq k) (k0_off21_eq k)
      (fun x => pay15_apply _ x) (fun x => pay20_apply _ x) (fun x => pay21_apply _ x) (fun x => pay23_apply _ x)
      (fun x => pay24_apply _ x) (fun x => pay25_apply _ x) (fun x => pay1_apply _ x) (fun x => pay2_apply _ x)
  unfold inv3
  isplitl [HA HB]
  · isplitl [HA]; · iexact HA
    iexists B
    isplitr
    · ipureintro; intro y hy; exact absurd hy (Nat.not_lt_zero _)
    · iexact HB
  iintro %_ ⟨HA, %f, %hf, HB⟩
  isplitl [HA]; · iexact HA
  rw [show f = cells A from funext fun y => hf y (y 1).isLt]
  iexact HB

end Cert.Proof.Tile

end
-- ==== Proof.Tile.lean ====
/-
  One tile's run: the outer loop with the two chunks of each trip, and the whole body with what the tile is lent.
-/
module

public import proofs.«01_k».proof.Proof.Copies
public import proofs.«01_k».proof.Proof.Inner

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (ownRefs ownCells ownBufs ownSems0 mem_ownRefs_of_owner mem_ownCells)

variable {F : FTy → Type} [FloatOps F]

local notation "𝕄" => MT nD τ sig (HIx 1) (Elt F) ℕ UU ℕ

variable (d : Dev nD) (L : grid0.Coords) (bd : Option (𝒱₀).V)

/-! ## The staging buffers -/

abbrev b0 : Memref sig .scVector .vmem S8x2048 .f32 := Memref.whole cc0_scratch0
abbrev b1 : Memref sig .scVector .vmem S8x2048 .f32 := Memref.whole cc0_scratch1
abbrev b2 : Memref sig .scVector .vmem S8x2048 .f32 := Memref.whole cc0_scratch2
abbrev b3 : Memref sig .scVector .vmem S8x2048 .f32 := Memref.whole cc0_scratch3
abbrev s4 : DmaSem sig := cc0_scratch4.sem
abbrev s5 : DmaSem sig := cc0_scratch5.sem
abbrev s6 : DmaSem sig := cc0_scratch6.sem
abbrev s7 : DmaSem sig := cc0_scratch7.sem

theorem compute2 (v0 c0 c1 : BitVec 32) (k1 : Fin k0_t1_loop.trips) (A : S8x2048.Idx → F .f32) :
    iprop(Holds d L b0 A ∗ Rest (F := F) d L b2 s6)
      ⊢ wp frame (wpE (defs₀ (F := F)) 𝒱₀ (tl d L) bd) Set.univ
          (Scf.Loop.for k0_t2_loop k0_t2_ok ⟨⟩ (k0_t2_body L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 v0 c0 c1 k1))
          fun _ => iprop((∃ f : Buf (Elt F) (b0.view.loc (tl d L)), b0.view.loc (tl d L) ↦{fullShare} f) ∗ Holds d L b2 (cells A) ∗ semVal (tl d L, SemLoc.dma s6) 0) := by
  unfold Holds Rest
  iintro ⟨⟨%f, %hf, HA⟩, ⟨%g, HB⟩, Hsem⟩
  obtain rfl : f = A := hf
  iapply (wp_wand_r frame _)
  isplitl [HA HB]
  · iapply (loop2 d L bd v0 c0 c1 k1 f g)
    isplitl [HA]; · iexact HA
    iexact HB
  iintro %_ ⟨HA, HB⟩
  isplitl [HA]; · iexists _; iexact HA
  isplitl [HB]
  · iexists _
    isplitr
    rotate_left
    · iexact HB
    ipureintro; rfl
  iexact Hsem

theorem compute3 (A : S8x2048.Idx → F .f32) :
    iprop(Holds d L b1 A ∗ Rest (F := F) d L b3 s7)
      ⊢ wp frame (wpE (defs₀ (F := F)) 𝒱₀ (tl d L) bd) Set.univ
          (Scf.Loop.for k0_t3_loop k0_t3_ok ⟨⟩ (k0_t3_body L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7))
          fun _ => iprop((∃ f : Buf (Elt F) (b1.view.loc (tl d L)), b1.view.loc (tl d L) ↦{fullShare} f) ∗ Holds d L b3 (cells A) ∗ semVal (tl d L, SemLoc.dma s7) 0) := by
  unfold Holds Rest
  iintro ⟨⟨%f, %hf, HA⟩, ⟨%g, HB⟩, Hsem⟩
  obtain rfl : f = A := hf
  iapply (wp_wand_r frame _)
  isplitl [HA HB]
  · iapply (loop3 d L bd f g)
    isplitl [HA]; · iexact HA
    iexact HB
  iintro %_ ⟨HA, HB⟩
  isplitl [HA]; · iexists _; iexact HA
  isplitl [HB]
  · iexists _
    isplitr
    rotate_left
    · iexact HB
    ipureintro; rfl
  iexact Hsem

/-! ## One trip of the outer loop -/

section

variable (X O₀ : S2x512x8x2048.Idx → F .f32) (O : CellTallies nD τ sig (HIx 1)) (W : Waits sig (HIx 1))

/-- `cell` at every place of the array. -/
abbrev gOf (X : S2x512x8x2048.Idx → F .f32) : S2x512x8x2048.Idx → F .f32 := fun x => cell (X x)

/-- Before trip `k` (`t = 2 k`): the blocks fetched and not, the two fetches and the two write-outs under way. -/
def St (t : ℕ) : sProp 𝕄 :=
  iprop(InPts d L X 0 t ∗ InPts d L X (t + 2) 32 ∗ InSt d L b0 s4 X t ∗ InSt d L b1 s5 X (t + 1)
    ∗ OutPts d L (gOf X) 0 (t - 2) ∗ OutPts d L O₀ t 32 ∗ OutSt d L b2 s6 (gOf X) t ∗ OutSt d L b3 s7 (gOf X) (t + 1) ∗ OW (F := F) d L O W)

/-- In the middle of the trip: the even block is done, the odd block is fetched. -/
def Mid (t : ℕ) : sProp 𝕄 :=
  iprop(InPts d L X 0 (t + 2) ∗ InPts d L X (t + 3) 32 ∗ InSt d L b0 s4 X (t + 2) ∗ Holds d L b1 (fun y => X (pl L (t + 1) y)) ∗ semVal (tl d L, SemLoc.dma s5) 0
    ∗ OutPts d L (gOf X) 0 (t - 1) ∗ OutPts d L O₀ (t + 1) 32 ∗ OutSt d L b2 s6 (gOf X) (t + 2) ∗ OutSt d L b3 s7 (gOf X) (t + 1) ∗ OW (F := F) d L O W)

theorem k_lt (k : Fin k0_t1_loop.trips) : k.val < 16 := lt_of_lt_of_eq k.isLt trips1

theorem part9 (v0 c0 c1 : BitVec 32) (k : Fin k0_t1_loop.trips) :
    St d L X O₀ O W (2 * k.val)
      ⊢ wp frame (wpE (defs₀ (F := F)) 𝒱₀ (tl d L) bd) Set.univ
          (k0_part9 L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 v0 c0 c1 k)
          fun _ => Mid d L X O₀ O W (2 * k.val) := by
  have hk := k_lt k
  rw [k0_part9_eq_skeleton]
  unfold k0_part9_skel St Mid
  simp only []
  iintro ⟨HinL, HinR, Hs0, Hs1, HoutL, HoutR, Ho2, Ho3, HO⟩
  -- the even block arrives
  iapply (wp_seq (wait_in d L bd b0 s4 (show 2 * k.val < 32 by omega) X (O := O) (W := W))) $$ [Hs0 HinL HO]
  · isplitl [Hs0]; · iexact Hs0
    isplitl [HinL]; · iexact HinL
    iexact HO
  iintro %_ ⟨H0, Hsem4, HinL, HO⟩
  -- its output buffer is free
  iapply (wp_cond_seq (cond_wait_out d L bd b2 s6 (t := 2 * k.val) ((cond1_iff k).trans (by omega)) (gOf X) (O := O) (W := W))) $$ [Ho2 HoutL HO]
  · isplitl [Ho2]; · iexact Ho2
    isplitl [HoutL]; · iexact HoutL
    iexact HO
  iintro ⟨Hr2, HoutL, HO⟩
  iapply (wp_seq (compute2 d L bd _ _ _ k _)) $$ [H0 Hr2]
  · isplitl [H0]; · iexact H0
    iexact Hr2
  iintro %_ ⟨H0, H2, Hsem6⟩
  -- the even block leaves
  iapply (wp_seq (start_out d L bd b2 s6 (t := 2 * k.val) (View.set_whole _) (by omega) (off2_0 L k) O₀ (gOf X))) $$ [H2 Hsem6 HoutR]
  · isplitl [H2]; · iexact H2
    isplitl [Hsem6]; · iexact Hsem6
    iexact HoutR
  iintro %_ ⟨Ho2, HoutR⟩
  -- the next even block is sent for
  iapply (wp_cond_seq (cond_start_in d L bd b0 s4 (t := 2 * k.val + 2) ((cond2_iff k).trans (by omega)) (View.set_whole _) (off12 L k) X)) $$ [HinR H0 Hsem4]
  · isplitl [HinR]; · iexact HinR
    unfold Rest
    isplitl [H0]; · iexact H0
    iexact Hsem4
  iintro ⟨Hs0, HinR⟩
  -- the odd block arrives
  iapply (wp_seq (wait_in d L bd b1 s5 (show 2 * k.val + 1 < 32 by omega) X (O := O) (W := W))) $$ [Hs1 HinL HO]
  · isplitl [Hs1]; · iexact Hs1
    isplitl [HinL]; · iexact HinL
    iexact HO
  iintro %_ ⟨H1, Hsem5, HinL, HO⟩
  rw [wp_pure]; imodintro
  isplitl [HinL]; · iexact HinL
  isplitl [HinR]; · iexact HinR
  isplitl [Hs0]; · iexact Hs0
  isplitl [H1]; · iexact H1
  isplitl [Hsem5]; · iexact Hsem5
  isplitl [HoutL]; · iexact HoutL
  isplitl [HoutR]; · iexact HoutR
  isplitl [Ho2]; · iexact Ho2
  isplitl [Ho3]; · iexact Ho3
  iexact HO

theorem trip (v0 : BitVec 32) (k : Fin k0_t1_loop.trips) (acc : BitVec 32) :
    St d L X O₀ O W (2 * k.val)
      ⊢ wp frame (wpE (defs₀ (F := F)) 𝒱₀ (tl d L) bd) Set.univ
          (k0_t1_body L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 v0 k acc)
          fun _ => St d L X O₀ O W (2 * (k.val + 1)) := by
  have hk := k_lt k
  unfold k0_t1_body
  simp only []
  iintro H
  iapply (wp_seq (part9 d L bd X O₀ O W _ _ _ k)) $$ H
  iintro %a H
  obtain ⟨v43, v50⟩ := a
  unfold Mid St
  simp only []
  icases H with ⟨HinL, HinR, Hs0, H1, Hsem5, HoutL, HoutR, Ho2, Ho3, HO⟩
  iapply (wp_cond_seq (cond_wait_out d L bd b3 s7 (t := 2 * k.val + 1) ((cond3_iff k).trans (by omega)) (gOf X) (O := O) (W := W))) $$ [Ho3 HoutL HO]
  · isplitl [Ho3]; · iexact Ho3
    isplitl [HoutL]; · iexact HoutL
    iexact HO
  iintro ⟨Hr3, HoutL, HO⟩
  iapply (wp_seq (compute3 d L bd _)) $$ [H1 Hr3]
  · isplitl [H1]; · iexact H1
    iexact Hr3
  iintro %_ ⟨H1, H3, Hsem7⟩
  iapply (wp_seq (start_out d L bd b3 s7 (t := 2 * k.val + 1) (View.set_whole _) (by omega) (off2_1 L k) O₀ (gOf X))) $$ [H3 Hsem7 HoutR]
  · isplitl [H3]; · iexact H3
    isplitl [Hsem7]; · iexact Hsem7
    iexact HoutR
  iintro %_ ⟨Ho3, HoutR⟩
  iapply (wp_cond_seq (cond_start_in d L bd b1 s5 (t := 2 * k.val + 3) ((cond4_iff k).trans (by omega)) (View.set_whole _) (off22 L k) X)) $$ [HinR H1 Hsem5]
  · isplitl [HinR]; · iexact HinR
    unfold Rest
    isplitl [H1]; · iexact H1
    iexact Hsem5
  iintro ⟨Hs1, HinR⟩
  rw [wp_pure]; imodintro
  isplitl [HinL]; · iexact HinL
  isplitl [HinR]; · iexact HinR
  isplitl [Hs0]; · iexact Hs0
  isplitl [Hs1]; · iexact Hs1
  isplitl [HoutL]; · iexact HoutL
  isplitl [HoutR]; · iexact HoutR
  isplitl [Ho2]; · iexact Ho2
  isplitl [Ho3]; · iexact Ho3
  iexact HO

/-! ## The whole body -/

/-- After the last trip nothing is left to fetch, and the last two write-outs are under way. -/
theorem St_end :
    St d L X O₀ O W (2 * k0_t1_loop.trips)
      = iprop(InPts d L X 0 32 ∗ emp ∗ Rest (F := F) d L b0 s4 ∗ Rest (F := F) d L b1 s5
          ∗ OutPts d L (gOf X) 0 30 ∗ emp ∗ OutSt d L b2 s6 (gOf X) 32 ∗ OutSt d L b3 s7 (gOf X) 33 ∗ OW (F := F) d L O W) := by
  rw [trips1]
  unfold St
  rw [InPts_empty d L X (show 32 ≤ 2 * 16 + 2 by omega), OutPts_empty d L O₀ (show 32 ≤ 2 * 16 by omega)]
  unfold InSt
  rw [if_neg (show ¬ 2 * 16 < 32 by omega), if_neg (show ¬ 2 * 16 + 1 < 32 by omega)]

theorem run :
    iprop(InPts d L X 0 32 ∗ OutPts d L O₀ 0 32 ∗ Rest (F := F) d L b0 s4 ∗ Rest (F := F) d L b1 s5 ∗ Rest (F := F) d L b2 s6 ∗ Rest (F := F) d L b3 s7
        ∗ OW (F := F) d L O W)
      ⊢ wp frame (wpE (defs₀ (F := F)) 𝒱₀ (tl d L) bd) Set.univ
          (cc0_run L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7)
          fun _ => iprop(InPts d L X 0 32 ∗ OutPts d L (gOf X) 0 32 ∗ Rest (F := F) d L b0 s4 ∗ Rest (F := F) d L b1 s5 ∗ Rest (F := F) d L b2 s6
            ∗ Rest (F := F) d L b3 s7 ∗ OW (F := F) d L O W) := by
  rw [cc0_run_eq_skeleton]
  unfold cc0_run_skel
  simp only []
  iintro ⟨Hin, Hout, Hr0, Hr1, Hr2, Hr3, HO⟩
  iapply (wp_seq (start_in d L bd b0 s4 (t := 0) (View.set_whole _) (by omega) (off1_0 L) X)) $$ [Hin Hr0]
  · isplitl [Hin]; · iexact Hin
    iexact Hr0
  iintro %_ ⟨Hs0, Hin⟩
  iapply (wp_seq (start_in d L bd b1 s5 (t := 1) (View.set_whole _) (by omega) (off1_1 L) X)) $$ [Hin Hr1]
  · isplitl [Hin]; · iexact Hin
    iexact Hr1
  iintro %_ ⟨Hs1, Hin⟩
  rw [wp_bind]
  sl_for (fun k _ => St (F := F) d L X O₀ O W (2 * k)) $$ [Hs0 Hs1 Hin Hout Hr2 Hr3 HO]
  case region =>
    intro k acc
    exact trip d L bd X O₀ O W _ k acc
  isplitl [Hs0 Hs1 Hin Hout Hr2 Hr3 HO]
  · unfold St
    rw [InPts_empty d L X (show 2 * 0 ≤ 0 by omega), OutPts_empty d L (gOf X) (show 2 * 0 - 2 ≤ 0 by omega)]
    isplitr; · iempintro
    isplitl [Hin]; · iexact Hin
    isplitl [Hs0]; · iexact Hs0
    isplitl [Hs1]; · iexact Hs1
    isplitr; · iempintro
    isplitl [Hout]; · iexact Hout
    isplitl [Hr2]
    · unfold OutSt; rw [if_neg (by omega)]; iexact Hr2
    isplitl [Hr3]
    · unfold OutSt; rw [if_neg (by omega)]; iexact Hr3
    iexact HO
  iintro %_ H
  ihave H := (Entails.of_eq (St_end d L X O₀ O W)) $$ H
  icases H with ⟨HinL, -, Hs0, Hs1, HoutL, -, Ho2, Ho3, HO⟩
  iapply (wp_seq (wait_out d L bd b2 s6 (t := 32) (by omega) (gOf X) (O := O) (W := W))) $$ [Ho2 HoutL HO]
  · isplitl [Ho2]; · iexact Ho2
    isplitl [HoutL]; · iexact HoutL
    iexact HO
  iintro %_ ⟨Hr2, HoutL, HO⟩
  iapply (wp_seq (wait_out d L bd b3 s7 (t := 33) (by omega) (gOf X) (O := O) (W := W))) $$ [Ho3 HoutL HO]
  · isplitl [Ho3]; · iexact Ho3
    isplitl [HoutL]; · iexact HoutL
    iexact HO
  iintro %_ ⟨Hr3, HoutL, HO⟩
  rw [wp_pure]; imodintro
  isplitl [HinL]; · iexact HinL
  isplitl [HoutL]; · iexact HoutL
  isplitl [Hs0]; · iexact Hs0
  isplitl [Hs1]; · iexact Hs1
  isplitl [Hr2]; · iexact Hr2
  isplitl [Hr3]; · iexact Hr3
  iexact HO

end

/-! ## What the tile is lent: its scratch buffers and semaphores -/

/-- The four semaphores are among the tile's own. -/
theorem ownSems_tile :
    (ownSems0 (tl d L) : sProp 𝕄)
      = iprop(semVal (tl d L, SemLoc.dma s4) 0 ∗ semVal (tl d L, SemLoc.dma s5) 0 ∗ semVal (tl d L, SemLoc.dma s6) 0 ∗ semVal (tl d L, SemLoc.dma s7) 0
          ∗ bigSep (((((ownCells (tl d L)).erase (tl d L, SemLoc.dma s4)).erase (tl d L, SemLoc.dma s5)).erase (tl d L, SemLoc.dma s6)).erase (tl d L, SemLoc.dma s7))
              fun g => semVal g 0) := by
  have m4 : ((tl d L, SemLoc.dma s4) : GSem nD τ sig) ∈ ownCells (tl d L) := mem_ownCells.mpr ⟨rfl, by show (SemLoc.dma cc0_scratch4.sem : SemLoc sig).isScoped .scVector = true; decide⟩
  have m5 : ((tl d L, SemLoc.dma s5) : GSem nD τ sig) ∈ ownCells (tl d L) := mem_ownCells.mpr ⟨rfl, by show (SemLoc.dma cc0_scratch5.sem : SemLoc sig).isScoped .scVector = true; decide⟩
  have m6 : ((tl d L, SemLoc.dma s6) : GSem nD τ sig) ∈ ownCells (tl d L) := mem_ownCells.mpr ⟨rfl, by show (SemLoc.dma cc0_scratch6.sem : SemLoc sig).isScoped .scVector = true; decide⟩
  have m7 : ((tl d L, SemLoc.dma s7) : GSem nD τ sig) ∈ ownCells (tl d L) := mem_ownCells.mpr ⟨rfl, by show (SemLoc.dma cc0_scratch7.sem : SemLoc sig).isScoped .scVector = true; decide⟩
  have ne {a b : SemLoc sig} (h : a ≠ b) : ((tl d L, a) : GSem nD τ sig) ≠ (tl d L, b) := fun e => h (congrArg Prod.snd e)
  unfold SparseCore.Cfg.ownSems0
  rw [SparseCore.bigSep_erase' m4,
    SparseCore.bigSep_erase' (Finset.mem_erase.mpr ⟨ne (show SemLoc.dma s5 ≠ SemLoc.dma s4 by decide), m5⟩),
    SparseCore.bigSep_erase' (Finset.mem_erase.mpr ⟨ne (show SemLoc.dma s6 ≠ SemLoc.dma s5 by decide),
      Finset.mem_erase.mpr ⟨ne (show SemLoc.dma s6 ≠ SemLoc.dma s4 by decide), m6⟩⟩),
    SparseCore.bigSep_erase' (Finset.mem_erase.mpr ⟨ne (show SemLoc.dma s7 ≠ SemLoc.dma s6 by decide),
      Finset.mem_erase.mpr ⟨ne (show SemLoc.dma s7 ≠ SemLoc.dma s5 by decide),
        Finset.mem_erase.mpr ⟨ne (show SemLoc.dma s7 ≠ SemLoc.dma s4 by decide), m7⟩⟩⟩)]

/-- The four staging buffers are among the tile's own. -/
theorem ownBufs_tile :
    (ownBufs (tl d L) : sProp 𝕄)
      = iprop((∃ f : Buf (Elt F) (b0.view.loc (tl d L)), b0.view.loc (tl d L) ↦{fullShare} f) ∗ (∃ f : Buf (Elt F) (b1.view.loc (tl d L)), b1.view.loc (tl d L) ↦{fullShare} f)
          ∗ (∃ f : Buf (Elt F) (b2.view.loc (tl d L)), b2.view.loc (tl d L) ↦{fullShare} f) ∗ (∃ f : Buf (Elt F) (b3.view.loc (tl d L)), b3.view.loc (tl d L) ↦{fullShare} f)
          ∗ bigSep (((((ownRefs (τ := τ) (tl d L).2).erase ((tl d L).2.devRef cc0_scratch0)).erase ((tl d L).2.devRef cc0_scratch1)).erase
              ((tl d L).2.devRef cc0_scratch2)).erase ((tl d L).2.devRef cc0_scratch3))
              fun b => iprop(∃ f, ((d, b) : Loc nD τ sig) ↦{fullShare} f)) := by
  have m0 : (tl d L).2.devRef cc0_scratch0 ∈ ownRefs (sig := sig) (tl d L).2 := mem_ownRefs_of_owner (p := (tl d L).2) (b := (tl d L).2.devRef cc0_scratch0) rfl
  have m1 : (tl d L).2.devRef cc0_scratch1 ∈ ownRefs (sig := sig) (tl d L).2 := mem_ownRefs_of_owner (p := (tl d L).2) (b := (tl d L).2.devRef cc0_scratch1) rfl
  have m2 : (tl d L).2.devRef cc0_scratch2 ∈ ownRefs (sig := sig) (tl d L).2 := mem_ownRefs_of_owner (p := (tl d L).2) (b := (tl d L).2.devRef cc0_scratch2) rfl
  have m3 : (tl d L).2.devRef cc0_scratch3 ∈ ownRefs (sig := sig) (tl d L).2 := mem_ownRefs_of_owner (p := (tl d L).2) (b := (tl d L).2.devRef cc0_scratch3) rfl
  have ne {a b : Ref sig .scVector} (h : a ≠ b) : (tl d L).2.devRef a ≠ (tl d L).2.devRef b := fun e => h (Proc.devRef_injective _ e)
  unfold SparseCore.Cfg.ownBufs
  refine (SparseCore.bigSep_erase' m0).trans ?_
  rw [SparseCore.bigSep_erase' (Finset.mem_erase.mpr ⟨ne (show (cc0_scratch1 : Ref sig .scVector) ≠ cc0_scratch0 by decide), m1⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), m2⟩⟩),
    SparseCore.bigSep_erase' (Finset.mem_erase.mpr ⟨ne (show (cc0_scratch3 : Ref sig .scVector) ≠ cc0_scratch2 by decide),
      Finset.mem_erase.mpr ⟨ne (show (cc0_scratch3 : Ref sig .scVector) ≠ cc0_scratch1 by decide),
        Finset.mem_erase.mpr ⟨ne (show (cc0_scratch3 : Ref sig .scVector) ≠ cc0_scratch0 by decide), m3⟩⟩⟩)]

/-- The body on tile `L` of device `d`, from the tile's runs of the two arrays and all that a task is lent. -/
theorem tile_body (hF : (K (F := F)).Facts) (X O₀ : S2x512x8x2048.Idx → F .f32) (O : CellTallies nD τ sig (HIx 1)) (W : Waits sig (HIx 1)) (hO : ∀ g, O g none = 0) :
    iprop(levAts (K (F := F)).L (K (F := F)).lev ∗ (InPts d L X 0 32 ∗ OutPts d L O₀ 0 32)
        ∗ scopedBufs (tl d L) ∗ scopedSems0 (tl d L) ∗ owes (tl d L) O W)
      ⊢ wp frame (wpE (defs₀ (F := F)) 𝒱₀ (tl d L) none) Set.univ
          (cc0_run L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7)
          fun _ => iprop((InPts d L X 0 32 ∗ OutPts d L (gOf X) 0 32) ∗ scopedBufs (tl d L) ∗ scopedSems0 (tl d L)
            ∗ ∃ W', ⌜∀ p ∈ W', p ∈ W ∨ p.2 = none⌝ ∗ owes (tl d L) O W') := by
  rw [(K (F := F)).scopedBufs_V hF d (cV L) (jV L), SparseCore.Cfg.scopedSems0_V (Val := Elt F) d (cV L) (jV L), ownSems_tile, ownBufs_tile]
  iintro ⟨#Hlv, ⟨Hin, Hout⟩, ⟨H0, H1, H2, H3, Hbufs⟩, ⟨H4, H5, H6, H7, Hsems⟩, HO⟩
  ihave #Hmw := ((K (F := F)).mayWaits_none (thr := tl d L) hO) $$ Hlv
  iapply (wp_wand_r frame _)
  isplitl [Hin Hout H0 H1 H2 H3 H4 H5 H6 H7 HO]
  · iapply (run d L none X O₀ O W)
    unfold Rest OW
    isplitl [Hin]; · iexact Hin
    isplitl [Hout]; · iexact Hout
    isplitl [H0 H4]
    · isplitl [H0]; · iexact H0
      iexact H4
    isplitl [H1 H5]
    · isplitl [H1]; · iexact H1
      iexact H5
    isplitl [H2 H6]
    · isplitl [H2]; · iexact H2
      iexact H6
    isplitl [H3 H7]
    · isplitl [H3]; · iexact H3
      iexact H7
    isplitr; · iexact Hmw
    iexists W
    isplitr
    · ipureintro; exact fun p hp => .inl hp
    · iexact HO
  unfold Rest OW
  iintro %_ ⟨Hin, Hout, ⟨H0, H4⟩, ⟨H1, H5⟩, ⟨H2, H6⟩, ⟨H3, H7⟩, -, HO⟩
  isplitl [Hin Hout]
  · isplitl [Hin]; · iexact Hin
    iexact Hout
  isplitl [H0 H1 H2 H3 Hbufs]
  · isplitl [H0]; · iexact H0
    isplitl [H1]; · iexact H1
    isplitl [H2]; · iexact H2
    isplitl [H3]; · iexact H3
    iexact Hbufs
  isplitl [H4 H5 H6 H7 Hsems]
  · isplitl [H4]; · iexact H4
    isplitl [H5]; · iexact H5
    isplitl [H6]; · iexact H6
    isplitl [H7]; · iexact H7
    iexact Hsems
  iexact HO

end Cert.Proof.Tile

end
-- ==== Proof.Launch.lean ====
/-
  The launch: the two arrays are dealt to the thirty-two tiles and joined again, @main reshapes the operand before the
  call and the result after it, and every run of the program ends with the operands as they were and the result `cell` of
  the first of them, place by place.
-/
module

public import proofs.«01_k».proof.Proof.Tile

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays -/

abbrev aLoc (d : Dev nD) : Loc nD τ sig := (SparseCore.T d).loc main_arg0
abbrev qLoc (d : Dev nD) : Loc nD τ sig := (SparseCore.T d).loc main_arg1
abbrev vLoc (d : Dev nD) : Loc nD τ sig := (SparseCore.T d).loc main_arg2
abbrev xLoc (d : Dev nD) : Loc nD τ sig := (SparseCore.T d).loc main_v0
abbrev yLoc (d : Dev nD) : Loc nD τ sig := (SparseCore.T d).loc main_v1
abbrev rLoc (d : Dev nD) : Loc nD τ sig := (SparseCore.T d).loc main_v2

/-- The operand in the kernel's shape. -/
def xOf (d : Dev nD) : S2x512x8x2048.Idx → F .f32 :=
  fun x => (m (aLoc d) : S2x4096x2048.Idx → F .f32) (Shape.reshapeEquiv shapeCasts_S2x4096x2048_S2x512x8x2048 x)
/-- What the result's array holds at launch. -/
def yOf (d : Dev nD) : S2x512x8x2048.Idx → F .f32 := m (yLoc d)

/-! ## The coordinates of a tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_run (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7) ⟨⟩ c s := rfl

/-! ## What the call hands the SparseCores and the tiles -/

/-- A tile's blocks of both arrays, the result's holding `G`. -/
def share (d : Dev nD) (G : S2x512x8x2048.Idx → F .f32) (L : grid0.Coords) : sProp 𝕄 :=
  iprop(InPts d L (xOf m d) 0 32 ∗ OutPts d L G 0 32)

instance share_storable (d : Dev nD) (G : S2x512x8x2048.Idx → F .f32) (L : grid0.Coords) : BI.Storable (upEmb : UEmb _ 𝕄) (share m d G L) := by
  unfold share InPts OutPts; infer_instance

/-- The call's payloads: each SparseCore and each tile is handed its blocks, and hands them back with the result written. -/
def P : (K (F := F)).Pay (nD := nD) (Val := Elt F) (Name := ℕ) (U := UU) where
  st := fun _ d c => bigSep Finset.univ fun i : Fin (grid0.bound 1) => share m d (yOf m d) (coordsV ⟨c.val % 2, Nat.mod_lt _ (by decide)⟩ i)
  dn := fun _ d c => bigSep Finset.univ fun i : Fin (grid0.bound 1) => share m d (gOf (xOf m d)) (coordsV ⟨c.val % 2, Nat.mod_lt _ (by decide)⟩ i)
  go := fun _ d c i => share m d (yOf m d) (coordsV ⟨c.val % 2, Nat.mod_lt _ (by decide)⟩ ⟨i.val % 16, Nat.mod_lt _ (by decide)⟩)
  td := fun _ d c i => share m d (gOf (xOf m d)) (coordsV ⟨c.val % 2, Nat.mod_lt _ (by decide)⟩ ⟨i.val % 16, Nat.mod_lt _ (by decide)⟩)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem go_eq (d : Dev nD) (G : S2x512x8x2048.Idx → F .f32) (c : Fin 2) (i : Fin 16) :
    share m d G (coordsV ⟨c.val % 2, Nat.mod_lt _ (by decide)⟩ ⟨i.val % 16, Nat.mod_lt _ (by decide)⟩) = share m d G (coordsV c i) := by
  have hc : (⟨c.val % 2, Nat.mod_lt _ (by decide)⟩ : Fin 2) = c := Fin.ext (Nat.mod_eq_of_lt c.isLt)
  have hi : (⟨i.val % 16, Nat.mod_lt _ (by decide)⟩ : Fin 16) = i := Fin.ext (Nat.mod_eq_of_lt i.isLt)
  exact congrArg₂ (fun c i => share m d G (coordsV c i)) hc hi

/-- The body's obligation with its program named, for the launch's. -/
theorem body_obl (hF : (K (F := F)).Facts) (d : Dev nD) (L : grid0.Coords) (O : CellTallies nD τ sig (HIx 1)) (W : Waits sig (HIx 1)) (hO : ∀ g, O g none = 0) :
    iprop(levAts (K (F := F)).L (K (F := F)).lev ∗ emp ∗ share m d (yOf m d) L ∗ scopedBufs (tl d L) ∗ scopedSems0 (tl d L) ∗ owes (tl d L) O W)
      ⊢ wp frame (wpE (defs₀ (F := F)) 𝒱₀ (tl d L) none) Set.univ
          (cc0_run L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7)
          fun _ => iprop(share m d (gOf (xOf m d)) L ∗ scopedBufs (tl d L) ∗ scopedSems0 (tl d L)
            ∗ ∃ W', ⌜∀ p ∈ W', p ∈ W ∨ p.2 = none ∨ p.2 = some (0 : Fin 1)⌝ ∗ owes (tl d L) O W') := by
  unfold share
  iintro ⟨#Hlv, -, H⟩
  iapply ((tile_body d L hF (xOf m d) (yOf m d) O W hO).trans (wp_mono frame _ _ fun _ => obl_post))
  isplitr; · iexact Hlv
  iexact H

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  have hg := go_eq m d (yOf m d) c i
  have ht := go_eq m d (gOf (xOf m d)) c i
  rw [defs₀_vector]; simp only [SparseCore.onTile, hc, and_self, ↓reduceDIte]
  change iprop(_ ∗ _ ∗ share m d (yOf m d) (coordsV ⟨c.val % 2, _⟩ ⟨i.val % 16, _⟩) ∗ _) ⊢ wp _ _ _ _ (fun _ => iprop(share m d (gOf (xOf m d)) (coordsV ⟨c.val % 2, _⟩ ⟨i.val % 16, _⟩) ∗ _))
  rw [hg, ht]
  exact body_obl m hF d (coordsV ⟨_, hc.1⟩ ⟨_, hc.2⟩) O W hO

theorem vecSplit : (K (F := F)).VecSplit' (P m) 0 := by
  intro d c
  have h (G : S2x512x8x2048.Idx → F .f32) :
      (bigSep Finset.univ fun i : Fin ((K (F := F)).nSub 0) => share m d G (coordsV ⟨c.val % 2, Nat.mod_lt _ (by decide)⟩ ⟨i.val % 16, Nat.mod_lt _ (by decide)⟩))
        = bigSep Finset.univ fun i : Fin (grid0.bound 1) => share m d G (coordsV ⟨c.val % 2, Nat.mod_lt _ (by decide)⟩ i) :=
    bigSep_congr fun i _ => congrArg (fun j => share m d G (coordsV ⟨c.val % 2, Nat.mod_lt _ (by decide)⟩ j)) (Fin.ext (Nat.mod_eq_of_lt i.isLt))
  show (bigSep Finset.univ fun i : Fin (grid0.bound 1) => share m d (yOf m d) (coordsV ⟨c.val % 2, _⟩ i)) ⊢ |={Set.univ}=> iprop(
      (bigSep Finset.univ fun i : Fin ((K (F := F)).nSub 0) => share m d (yOf m d) (coordsV ⟨c.val % 2, _⟩ ⟨i.val % 16, _⟩))
      ∗ ((bigSep Finset.univ fun i : Fin ((K (F := F)).nSub 0) => share m d (gOf (xOf m d)) (coordsV ⟨c.val % 2, _⟩ ⟨i.val % 16, _⟩))
          -∗ bigSep Finset.univ fun i : Fin (grid0.bound 1) => share m d (gOf (xOf m d)) (coordsV ⟨c.val % 2, _⟩ i)))
  rw [h, h]
  iintro H; imodintro
  isplitl [H]; · iexact H
  iintro H; iexact H

/-! ## The arrays whole and by tiles -/

/-- The tile of a pair of numbers. -/
abbrev tileOf (p : Fin 2 × Fin 16) : grid0.Coords := coordsV p.1 p.2

theorem tiles_disjoint : ∀ p ∈ (Finset.univ : Finset (Fin 2 × Fin 16)), ∀ q ∈ (Finset.univ : Finset (Fin 2 × Fin 16)), p ≠ q → Disjoint (rng (tileOf p) 0 32) (rng (tileOf q) 0 32) := by
  intro p _ q _ hpq
  refine Finset.disjoint_left.mpr fun x hx hy => hpq ?_
  obtain ⟨h0, h1, h2⟩ := mem_rng.mp hx
  obtain ⟨k0, k1, k2⟩ := mem_rng.mp hy
  have a0 : p.1.val = q.1.val := h0.symm.trans k0
  have h1' : 32 * p.2.val + 0 ≤ (x 1).val := h1
  have h2' : (x 1).val < 32 * p.2.val + 32 := h2
  have k1' : 32 * q.2.val + 0 ≤ (x 1).val := k1
  have k2' : (x 1).val < 32 * q.2.val + 32 := k2
  exact Prod.ext (Fin.ext a0) (Fin.ext (by omega))

theorem tiles_cover : (Finset.univ : Finset (Fin 2 × Fin 16)).biUnion (fun p => rng (tileOf p) 0 32) = Finset.univ := by
  refine Finset.eq_univ_of_forall fun x => Finset.mem_biUnion.mpr ?_
  have h1 : (x 1).val < 512 := (x 1).isLt
  refine ⟨(⟨(x 0).val, (x 0).isLt⟩, ⟨(x 1).val / 32, by omega⟩), Finset.mem_univ _, mem_rng.mpr ⟨rfl, ?_, ?_⟩⟩
  · show 32 * ((x 1).val / 32) + 0 ≤ (x 1).val; omega
  · show (x 1).val < 32 * ((x 1).val / 32) + 32; omega

theorem in_tiles (d : Dev nD) (X : S2x512x8x2048.Idx → F .f32) :
    (xLoc d ↦{fullShare} (X : Buf (Elt F) (xLoc d)) : sProp 𝕄) = bigSep Finset.univ fun p : Fin 2 × Fin 16 => InPts d (tileOf p) X 0 32 := by
  have h := pointsTo_biUnion (Ix := HIx 1) (Val := Elt F) (Name := ℕ) (U := UU) (Lvl := ℕ) (Finset.univ : Finset (Fin 2 × Fin 16)) (ℓ := xLoc d) (q := fullShare) (f := (X : Buf (Elt F) (xLoc d)))
    (fun p => rng (tileOf p) 0 32) tiles_disjoint
  rw [tiles_cover] at h
  exact h
theorem out_tiles (d : Dev nD) (X : S2x512x8x2048.Idx → F .f32) :
    (yLoc d ↦{fullShare} (X : Buf (Elt F) (yLoc d)) : sProp 𝕄) = bigSep Finset.univ fun p : Fin 2 × Fin 16 => OutPts d (tileOf p) X 0 32 := by
  have h := pointsTo_biUnion (Ix := HIx 1) (Val := Elt F) (Name := ℕ) (U := UU) (Lvl := ℕ) (Finset.univ : Finset (Fin 2 × Fin 16)) (ℓ := yLoc d) (q := fullShare) (f := (X : Buf (Elt F) (yLoc d)))
    (fun p => rng (tileOf p) 0 32) tiles_disjoint
  rw [tiles_cover] at h
  exact h

theorem shares_eq (d : Dev nD) (G : S2x512x8x2048.Idx → F .f32) :
    (bigSep Finset.univ fun c : Fin ((K (F := F)).nCore 0) => bigSep Finset.univ fun i : Fin (grid0.bound 1) => share m d G (coordsV ⟨c.val % 2, Nat.mod_lt _ (by decide)⟩ i))
      = iprop((xLoc d ↦{fullShare} (xOf m d : Buf (Elt F) (xLoc d))) ∗ yLoc d ↦{fullShare} (G : Buf (Elt F) (yLoc d))) := by
  rw [in_tiles, out_tiles, ← bigSep_sep', ← Finset.univ_product_univ, SparseCore.bigSep_product]
  refine bigSep_congr fun c _ => bigSep_congr fun i _ => ?_
  exact congrArg (fun c => share m d G (coordsV c i)) (Fin.ext (Nat.mod_eq_of_lt c.isLt))

theorem st0_eq (d : Dev nD) : (bigSep Finset.univ fun c : Fin ((K (F := F)).nCore 0) => (P m).st 0 d c)
    = iprop((xLoc d ↦{fullShare} (xOf m d : Buf (Elt F) (xLoc d))) ∗ yLoc d ↦{fullShare} (yOf m d : Buf (Elt F) (yLoc d))) := shares_eq m d (yOf m d)
theorem dn0_eq (d : Dev nD) : (bigSep Finset.univ fun c : Fin ((K (F := F)).nCore 0) => (P m).dn 0 d c)
    = iprop((xLoc d ↦{fullShare} (xOf m d : Buf (Elt F) (xLoc d))) ∗ yLoc d ↦{fullShare} (gOf (xOf m d) : Buf (Elt F) (yLoc d))) := shares_eq m d (gOf (xOf m d))

/-! ## The launch element: the handshakes' rounds; nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have e {I : Type} (s : Finset I) : (bigSep s fun _ => iprop(emp)) = (iprop(emp) : sProp 𝕄) := bigSep_emp_const s
  unfold u₀
  iintro Hu
  ihave H := (ownU_pair _ _) $$ Hu
  icases H with ⟨HH, -⟩
  imodintro
  isplitl [HH]; · iexact HH
  isplitr; · rw [e]; iempintro
  unfold P; dsimp only
  rw [show (bigSep Finset.univ fun _ : Thread nD τ => bigSep Finset.univ fun _ : Fin 1 => (iprop(emp) : sProp 𝕄)) = iprop(emp) from by
    rw [bigSep_congr fun _ _ => e _, e]]
  iempintro

/-! ## @main on the TensorCore -/

abbrev a' : DevRef τ sig := Proc.devRef .tc (main_arg0 : Ref sig .tc)
abbrev q' : DevRef τ sig := Proc.devRef .tc (main_arg1 : Ref sig .tc)
abbrev v' : DevRef τ sig := Proc.devRef .tc (main_arg2 : Ref sig .tc)
abbrev x' : DevRef τ sig := Proc.devRef .tc (main_v0 : Ref sig .tc)
abbrev y' : DevRef τ sig := Proc.devRef .tc (main_v1 : Ref sig .tc)
abbrev r' : DevRef τ sig := Proc.devRef .tc (main_v2 : Ref sig .tc)

abbrev opIn : HloOp τ sig (Elt F) := StableHlo.reshape main_arg0 main_v0 (rfl : (.f32 : EltTy) = .f32) shapeCasts_S2x4096x2048_S2x512x8x2048
abbrev opOut : HloOp τ sig (Elt F) := StableHlo.reshape main_v1 main_v2 (rfl : (.f32 : EltTy) = .f32) shapeCasts_S2x512x8x2048_S2x4096x2048

abbrev S6 : Finset (DevRef τ sig) := {a', q', v', x', y', r'}

theorem held_S6 (d : Dev nD) (W : Valuation τ sig (Elt F)) :
    (held (T d) S6 W : sProp 𝕄) = iprop((aLoc d ↦{fullShare} W a') ∗ (qLoc d ↦{fullShare} W q') ∗ (vLoc d ↦{fullShare} W v')
      ∗ (xLoc d ↦{fullShare} W x') ∗ (yLoc d ↦{fullShare} W y') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (qLoc d ↦{fullShare} W main_arg1) ∗ (vLoc d ↦{fullShare} W main_arg2)
      ∗ (xLoc d ↦{fullShare} W main_v0) ∗ (yLoc d ↦{fullShare} W main_v1) ∗ rLoc d ↦{fullShare} W main_v2) := by
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]

/-- The launch's valuation; the one after the call, the result's array at what the tiles left. -/
def V0 (d : Dev nD) : Valuation τ sig (Elt F) := fun b => m (d, b)
def V1 (d : Dev nD) : Valuation τ sig (Elt F) := Function.update ((opIn (F := F)).result (V0 m d)) y' (gOf (xOf m d) : Buf (Elt F) (yLoc d))

theorem unscoped_held (d : Dev nD) : (unscopedBufs d (fun b => m ((SparseCore.T d).loc b)) : sProp 𝕄) = held (T d) S6 (V0 m d) := by
  rw [unscopedBufs_eq, held_S6]; rfl

/-- What @main leaves the claim: the operands as they were, the result `cell` of the first. -/
def outOf (d : Dev nD) : Buf (Elt F) (rLoc d) := fun x : S2x4096x2048.Idx => cell ((m (aLoc d) : S2x4096x2048.Idx → F .f32) x)

abbrev FIN (d : Dev nD) : sProp 𝕄 :=
  iprop((aLoc d ↦{fullShare} m (aLoc d)) ∗ (qLoc d ↦{fullShare} m (qLoc d)) ∗ (vLoc d ↦{fullShare} m (vLoc d)) ∗ rLoc d ↦{fullShare} outOf m d)

theorem in_keep (d : Dev nD) {r : Ref sig .tc} (h : r ≠ main_v0) : (opIn (F := F)).result (V0 m d) (Proc.devRef .tc r) = m ((SparseCore.T d).loc r) :=
  StableHlo.reshape_result_ne _ _ _ _ _ _ _ h
theorem in_val (d : Dev nD) : (opIn (F := F)).result (V0 m d) x' = (xOf m d : Buf (Elt F) (xLoc d)) :=
  StableHlo.reshape_result _ _ _ _ _ _ _

theorem V1_of_ne (d : Dev nD) {b : DevRef τ sig} (h : b ≠ y') : V1 m d b = (opIn (F := F)).result (V0 m d) b := Function.update_of_ne h _ _
theorem V1_y (d : Dev nD) : V1 m d y' = (gOf (xOf m d) : Buf (Elt F) (yLoc d)) := Function.update_self _ _ _

theorem out_keep (d : Dev nD) {r : Ref sig .tc} (h0 : r ≠ main_v0) (h1 : Proc.devRef .tc r ≠ y') (h2 : r ≠ main_v2) :
    (opOut (F := F)).result (V1 m d) (Proc.devRef .tc r) = m ((SparseCore.T d).loc r) :=
  (StableHlo.reshape_result_ne _ _ _ _ _ _ _ h2).trans ((V1_of_ne m d h1).trans (in_keep m d h0))
theorem out_val (d : Dev nD) : (opOut (F := F)).result (V1 m d) r' = outOf m d := by
  refine (StableHlo.reshape_result _ _ _ _ _ _ _).trans ?_
  rw [V1_y]
  funext x
  show cell ((m (aLoc d) : S2x4096x2048.Idx → F .f32) (Shape.reshapeEquiv shapeCasts_S2x4096x2048_S2x512x8x2048 (Shape.reshapeEquiv shapeCasts_S2x512x8x2048_S2x4096x2048 x))) = _
  rw [Shape.reshapeEquiv_reshapeEquiv, Shape.reshapeEquiv_self]
  rfl

theorem hIn : (opIn (F := F)).bufs ⊆ S6 := show ({a', x'} : Finset (DevRef τ sig)) ⊆ S6 by decide
theorem hOut : (opOut (F := F)).bufs ⊆ S6 := show ({y', r'} : Finset (DevRef τ sig)) ⊆ S6 by decide

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- the operand is reshaped
  iapply (wp_hlo_within 𝒱 (SparseCore.T d) none Set.univ (op := opIn) (S := S6) hIn (V := V0 m d)) $$ [Hb Hheld]
  · isplitl [Hb]; · iexact Hb
    iexact Hheld
  iintro ⟨Hb, Hheld⟩
  rw [wp_ret]; imodintro
  ihave Hh := (Entails.of_eq (held_S6 (F := F) d _)) $$ Hheld
  rw [in_val]
  icases Hh with ⟨Ha, Hq, Hv, Hx, Hy, Hr⟩
  -- the call
  iapply ((K (F := F)).wp_run (D (F := F)) 𝒱 (EH := EH) (P := P m) κ d 0) $$ [Hst Ha Hq Hv Hx Hy Hb Hr Hts]
  isplitr; · iexact Hctx
  isplitl [Hst]; · iexact Hst
  isplitl [Hx Hy]
  · rw [st0_eq]
    isplitl [Hx]; · iexact Hx
    rw [show (yOf m d : Buf (Elt F) (yLoc d)) = (opIn (F := F)).result (V0 m d) y' from (in_keep m d (by decide)).symm]
    iexact Hy
  iintro ⟨Hst, Hdn⟩
  ihave Hdn' := (Entails.of_eq (dn0_eq m d)) $$ Hdn
  icases Hdn' with ⟨Hx, Hy⟩
  -- the result is reshaped back
  iapply (wp_hlo_within 𝒱 (SparseCore.T d) none Set.univ (op := opOut) (S := S6) hOut (V := V1 m d)) $$ [Hb Ha Hq Hv Hx Hy Hr]
  · isplitl [Hb]; · iexact Hb
    rw [held_S6, V1_y, V1_of_ne m d (show a' ≠ y' by decide), V1_of_ne m d (show q' ≠ y' by decide), V1_of_ne m d (show v' ≠ y' by decide),
      V1_of_ne m d (show x' ≠ y' by decide), V1_of_ne m d (show r' ≠ y' by decide), in_val]
    isplitl [Ha]; · iexact Ha
    isplitl [Hq]; · iexact Hq
    isplitl [Hv]; · iexact Hv
    isplitl [Hx]; · iexact Hx
    isplitl [Hy]; · iexact Hy
    iexact Hr
  iintro ⟨Hb, Hheld⟩
  ihave Hh := (Entails.of_eq (held_S6 (F := F) d _)) $$ Hheld
  rw [out_val, out_keep m d (r := main_arg0) (by decide) (by decide) (by decide), out_keep m d (r := main_arg1) (by decide) (by decide) (by decide),
    out_keep m d (r := main_arg2) (by decide) (by decide) (by decide)]
  icases Hh with ⟨Ha, Hq, Hv, -, -, Hr⟩
  rw [wp_ret]; imodintro; imodintro
  isplitl [Hst]; · iexact Hst
  isplitr [Hb Hts]
  · isplitl [Ha]; · iexact Ha
    isplitl [Hq]; · iexact Hq
    isplitl [Hv]; · iexact Hv
    iexact Hr
  isplitl [Hb] <;> iassumption

/-! ## What the final memory holds -/

def fq (d : Dev nD) (s' : Phys nD τ sig (Elt F)) : Prop :=
  s'.mem.mem (rLoc d) = outOf m d ∧ s'.mem.mem (aLoc d) = m (aLoc d) ∧ s'.mem.mem (qLoc d) = m (qLoc d) ∧ s'.mem.mem (vLoc d) = m (vLoc d)

theorem hfin (d : Dev nD) (s' : Phys nD τ sig (Elt F)) : iprop(FIN m d ∗ SI s') ⊢ (⌜fq m d s'⌝ : sProp 𝕄) := by
  iintro ⟨⟨Ha, Hq, Hv, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := qLoc d) (I := Finset.univ) (q := fullShare) (f := m (qLoc d)))) $$ [HSI Hq]
  · isplitl [HSI] <;> iassumption
  icases H with ⟨%h2, HSI, -⟩
  ihave H := (persistent_entails_right (SI_pointsTo_agree (st := s') (ℓ := vLoc d) (I := Finset.univ) (q := fullShare) (f := m (vLoc d)))) $$ [HSI Hv]
  · isplitl [HSI] <;> iassumption
  icases H with ⟨%h3, HSI, -⟩
  ihave H := (SI_pointsTo_agree (st := s') (ℓ := rLoc d) (I := Finset.univ) (q := fullShare) (f := outOf m d)) $$ [HSI Hr]
  · isplitl [HSI] <;> iassumption
  icases H with %h4
  ipureintro
  exact ⟨funext fun i => h4 i (Finset.mem_univ i), funext fun i => h1 i (Finset.mem_univ i), funext fun i => h2 i (Finset.mem_univ i), funext fun i => h3 i (Finset.mem_univ i)⟩

def QC : PUnit × MemSt nD τ sig (Elt F) → Prop := fun r =>
  (∀ d : Dev nD, r.2.mem (rLoc d) = outOf m d ∧ r.2.mem (aLoc d) = m (aLoc d) ∧ r.2.mem (qLoc d) = m (qLoc d) ∧ r.2.mem (vLoc d) = m (vLoc d))
    ∧ r.2.sem = fun _ => 0

/-- Every run of the program, over any float values. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Tile

end
-- ==== Proof.Frames.lean ====
/-
  The three programs end, leave their arguments as they were, and put every semaphore back to zero. The kernel's
  run is proved once, over any float values; here it is read at the two instances. The reference is a list of host
  operations and declares no semaphore.
-/
module

public import proofs.«01_k».proof.Proof.Launch
public import proofs.«01_k».proof.Proof.Gen.ReferenceIdeal.Run
public import proofs.«01_k».proof.Proof.Gen.Kernel
public import proofs.«01_k».proof.Proof.Gen.Pre_tables
public import proofs.«01_k».proof.Defs

@[expose] public section

noncomputable section

namespace Cert.Proof

open Idealize.ShloMosaic Idealize.SL.Sem

/-- The kernel as printed, on bit patterns: it has the same text as the kernel read at the extended reals. -/
theorem frame_kernel : Cert.quiescent_Kernel (hKernel := Cert.Kernel.Gen.facts) := fun m ρ _ =>
  (θ_run Cert.KernelIdeal.defs _ _).mono (fun _ h => ⟨fun c => (h.1 c).2, h.2⟩) (Tile.run_main (F := Bits) m ρ)

/-- The kernel at the extended reals. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Tile.run_main (F := Ideal) m ρ)

/-- The same, among the memories the value claim speaks of. -/
theorem frame_ideal_tables : Cert.quiescent_KernelIdeal_pre_tables (hKernelIdeal := Cert.KernelIdeal.Gen.facts)
    (hPre_tables := Cert.Pre_tables.Gen.facts) := fun m ρ _ => frame_ideal m ρ trivial

/-- The reference writes none of its arguments and has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same, among the memories the value claim speaks of. -/
theorem frame_reference_tables : Cert.quiescent_ReferenceIdeal_pre_tables (hReferenceIdeal := Cert.ReferenceIdeal.Gen.facts)
    (hPre_tables := Cert.Pre_tables.Gen.facts) := fun m ρ _ => frame_reference m ρ trivial

end Cert.Proof

end
-- ==== Proof.Math.lean ====
/-
  The arithmetic of the claim, on real numbers. The reference sends a number through seventeen half-open intervals in
  turn, replacing it by the interval's value where it lies inside; the kernel clamps eight times the number and takes
  its ceiling less one, written as a truncation and a comparison. On every number between -10000 and 10000 both give
  the same eighth.
-/
module

public import proofs.«01_k».proof.Proof.Common
public import proofs.«01_k».proof.Pre_tables
public import Idealize.ShloMosaic.PureOps.Ideal.Laws
public import Idealize.ShloMosaic.Lib.IdealHost

@[expose] public section

noncomputable section

namespace Cert.Proof.Math

open Idealize.ShloMosaic

/-! ## The patterns of the literals -/

theorem ofBits_neg_10000 : Ideal.ofBits .f32 0xC61C4000#32 = (((-10000) : ℝ) : EReal) := by
  simp [Ideal.ofBits, Ideal.ieee, -EReal.coe_mul, -EReal.coe_neg] <;> norm_num

theorem ofBits_10000 : Ideal.ofBits .f32 0x461C4000#32 = ((10000 : ℝ) : EReal) := by
  simp [Ideal.ofBits, Ideal.ieee, -EReal.coe_mul, -EReal.coe_neg] <;> norm_num

theorem ofBits_8 : Ideal.ofBits .f32 0x41000000#32 = ((8 : ℝ) : EReal) := by
  simp [Ideal.ofBits, Ideal.ieee, -EReal.coe_mul, -EReal.coe_neg] <;> norm_num

theorem ofBits_17_2 : Ideal.ofBits .f32 0x41080000#32 = (((17 / 2) : ℝ) : EReal) := by
  simp [Ideal.ofBits, Ideal.ieee, -EReal.coe_mul, -EReal.coe_neg] <;> norm_num

theorem ofBits_1_2 : Ideal.ofBits .f32 0x3F000000#32 = (((1 / 2) : ℝ) : EReal) := by
  simp [Ideal.ofBits, Ideal.ieee, -EReal.coe_mul, -EReal.coe_neg] <;> norm_num

theorem ofBits_1_8 : Ideal.ofBits .f32 0x3E000000#32 = (((1 / 8) : ℝ) : EReal) := by
  simp [Ideal.ofBits, Ideal.ieee, -EReal.coe_mul, -EReal.coe_neg] <;> norm_num

/-- The table of the intervals' ends: the eighths from -1 to 1. -/
theorem ofBits_lit0 (k : Fin 17) :
    Ideal.ofBits .f32 (Cert.Pre_tables.lit0 k) = (((((k.val : ℕ) : ℝ) - 8) * (1 / 8) : ℝ) : EReal) := by
  fin_cases k <;> simp [Cert.Pre_tables.lit0, Ideal.ofBits, Ideal.ieee, -EReal.coe_mul, -EReal.coe_neg, -EReal.coe_sub] <;> norm_num

/-- The intervals' values: nought up to the ninth, then the eighths. -/
def w (i : ℕ) : ℝ := ((i - 8 : ℕ) : ℝ) * (1 / 8)

/-- The table of the intervals' values. -/
theorem ofBits_lit1 (k : Fin 17) : Ideal.ofBits .f32 (Cert.Pre_tables.lit1 k) = ((w k.val : ℝ) : EReal) := by
  unfold w
  fin_cases k <;> simp [Cert.Pre_tables.lit1, Ideal.ofBits, Ideal.ieee, -EReal.coe_mul, -EReal.coe_neg, -EReal.coe_sub] <;> norm_num

/-! ## The reference's intervals -/

/-- One of the reference's replacements: inside the interval the value, elsewhere the number itself. -/
def stp (lo hi v z : ℝ) : ℝ := if lo < z ∧ z ≤ hi then v else z

theorem stp_hit {lo hi v z : ℝ} (h₁ : lo < z) (h₂ : z ≤ hi) : stp lo hi v z = v := if_pos ⟨h₁, h₂⟩

theorem stp_below {lo hi v z : ℝ} (h : z ≤ lo) : stp lo hi v z = z := if_neg fun h' => absurd h'.1 (not_lt.mpr h)

theorem stp_above {lo hi v z : ℝ} (h : hi < z) : stp lo hi v z = z := if_neg fun h' => absurd h'.2 (not_le.mpr h)

/-- The replacement as the program writes it: two comparisons, their conjunction, a selection. -/
theorem select_stp (lo hi v z : ℝ) :
    Scalar.select (IntOp.andi (Ideal.cmp .ogt (z : EReal) (lo : EReal)) (Ideal.cmp .ole (z : EReal) (hi : EReal))) (v : EReal) (z : EReal)
      = ((stp lo hi v z : ℝ) : EReal) := by
  unfold Ideal.cmp stp
  by_cases h₁ : lo < z <;> by_cases h₂ : z ≤ hi <;> simp [h₁, h₂, IntOp.andi, Scalar.select]

/-- The lower end of an interval: the table's entry, the first excepted. -/
def lo (i : ℕ) : ℝ := if i = 0 then -10000 else ((i : ℝ) - 8) * (1 / 8)

/-- The upper end of an interval: the table's next entry, the last excepted. -/
def hi (i : ℕ) : ℝ := if i = 16 then 10000 else (((i + 1 : ℕ) : ℝ) - 8) * (1 / 8)

/-- The first `n` replacements, in the reference's order. -/
def chain : ℕ → ℝ → ℝ
  | 0, r => r
  | n + 1, r => stp (lo n) (hi n) (w n) (chain n r)

theorem ofBits_lo : Ideal.ofBits .f32 0xC61C4000#32 = ((lo 0 : ℝ) : EReal) := by
  rw [ofBits_neg_10000, lo, if_pos rfl]

theorem ofBits_hi : Ideal.ofBits .f32 0x461C4000#32 = ((hi 16 : ℝ) : EReal) := by
  rw [ofBits_10000, hi, if_pos rfl]

theorem hi_eq_lo {i : ℕ} (h : i < 16) : hi i = lo (i + 1) := by
  unfold hi lo
  rw [if_neg (by omega), if_neg (by omega)]

theorem lo_mono {i : ℕ} (h : i < 16) : lo i < lo (i + 1) := by
  unfold lo
  rw [if_neg (by omega : ¬ i + 1 = 0)]
  push_cast
  split_ifs with h0
  · subst h0; norm_num
  · linarith

/-- A number above the intervals passed so far is as it was. -/
theorem chain_before {r : ℝ} : ∀ {i : ℕ}, i ≤ 16 → lo i < r → chain i r = r
  | 0, _, _ => rfl
  | i + 1, h, hr => by
    show stp _ _ _ (chain i r) = r
    rw [chain_before (by omega) ((lo_mono (by omega)).trans hr)]
    exact stp_above ((hi_eq_lo (by omega)).trans_lt hr)

/-- An interval's value is left alone by every later interval. -/
theorem stp_later {i j : ℕ} (h : i < j) : stp (lo j) (hi j) (w j) (w i) = w i := by
  by_cases hj : j ≤ 8
  · have h0 : w j = w i := by unfold w; rw [show j - 8 = i - 8 by omega]
    rw [h0]
    exact ite_self _
  · apply stp_below
    have hk : ((i - 8 : ℕ) : ℝ) + 8 ≤ j := by exact_mod_cast (by omega : i - 8 + 8 ≤ j)
    unfold w lo
    rw [if_neg (by omega)]
    linarith

/-- A number in an interval ends at that interval's value. -/
theorem chain_after {r : ℝ} {i : ℕ} (hi16 : i ≤ 16) (h₁ : lo i < r) (h₂ : r ≤ hi i) : ∀ d : ℕ, chain (i + 1 + d) r = w i
  | 0 => by
    show stp _ _ _ (chain i r) = w i
    rw [chain_before hi16 h₁]
    exact stp_hit h₁ h₂
  | d + 1 => by
    show stp _ _ _ (chain (i + 1 + d) r) = w i
    rw [chain_after hi16 h₁ h₂ d]
    exact stp_later (j := i + 1 + d) (by omega)

/-- Every number above -10000 and not above an interval's end lies in that interval or an earlier one. -/
theorem interval {r : ℝ} (h₁ : -10000 < r) : ∀ {n : ℕ}, n ≤ 16 → r ≤ hi n → ∃ i ≤ n, lo i < r ∧ r ≤ hi i
  | 0, _, h => ⟨0, le_rfl, by simpa [lo] using h₁, h⟩
  | n + 1, hn, h => by
    rcases le_or_gt r (hi n) with h' | h'
    · obtain ⟨i, hle, hr⟩ := interval h₁ (by omega) h'
      exact ⟨i, by omega, hr⟩
    · exact ⟨n + 1, le_rfl, (hi_eq_lo (by omega)).symm.trans_lt h', h⟩

/-! ## The kernel's step -/

/-- The ceiling less one of a number between one half and eight and a half, as the kernel computes it: truncate,
    compare, and take one less where the number is whole. -/
theorem ceil_step {y : ℝ} {k : ℕ} (hk : k ≤ 8) (h₁ : (k : ℝ) < y) (h₂ : y ≤ k + 1) :
    Scalar.select (Ideal.cmp .ogt (y : EReal) ((((Ideal.fptosi 32 (y : EReal)).toInt : ℝ) : EReal))) (Ideal.fptosi 32 (y : EReal))
      (IntOp.subi (Ideal.fptosi 32 (y : EReal)) 1#32) = BitVec.ofNat 32 k := by
  have hk' : (k : ℝ) ≤ 8 := by exact_mod_cast hk
  have h0 : (0 : ℝ) ≤ y := le_trans (Nat.cast_nonneg k) h₁.le
  rcases lt_or_eq_of_le h₂ with h | h
  · have hf : ⌊y⌋ = (k : ℤ) := Int.floor_eq_iff.mpr ⟨by simpa using h₁.le, by simpa using h⟩
    have hn : Ideal.fptosi 32 (y : EReal) = BitVec.ofNat 32 k := by
      unfold Ideal.fptosi
      rw [Ideal.toIntClamped_coe, if_pos h0, hf]
      interval_cases k <;> rfl
    have ht : (BitVec.ofNat 32 k).toInt = (k : ℤ) := by interval_cases k <;> rfl
    rw [hn, ht]
    unfold Scalar.select Ideal.cmp
    rw [if_pos]
    have h' : (((k : ℤ) : ℝ) : EReal) < (y : EReal) := EReal.coe_lt_coe_iff.mpr (by simpa using h₁)
    simp only [h', decide_true]; rfl
  · have hf : ⌊y⌋ = (k : ℤ) + 1 := by rw [h]; exact_mod_cast Int.floor_natCast (k + 1)
    have hn : Ideal.fptosi 32 (y : EReal) = BitVec.ofNat 32 (k + 1) := by
      unfold Ideal.fptosi
      rw [Ideal.toIntClamped_coe, if_pos h0, hf]
      interval_cases k <;> rfl
    have ht : (BitVec.ofNat 32 (k + 1)).toInt = (k : ℤ) + 1 := by interval_cases k <;> rfl
    rw [hn, ht]
    unfold Scalar.select Ideal.cmp
    rw [if_neg]
    · interval_cases k <;> rfl
    · rw [h]; simp

/-- The kernel's value of a number whose clamped eightfold lies above `k` and not above `k + 1`: `k` eighths. -/
theorem cell_eq {r : ℝ} {k : ℕ} (hk : k ≤ 8) (h₁ : (k : ℝ) < min (max (r * 8) (1 / 2)) (17 / 2))
    (h₂ : min (max (r * 8) (1 / 2)) (17 / 2) ≤ (k : ℝ) + 1) :
    Tile.cell (F := Ideal) ((r : ℝ) : EReal) = (((k : ℝ) * (1 / 8) : ℝ) : EReal) := by
  have hy : FloatOps.minimumf (F := Ideal) (φ := .f32) (FloatOps.maximumf (FloatOps.mulf ((r : ℝ) : EReal) (Scalar.ofBits .f32 0x41000000#32)) (Scalar.ofBits .f32 0x3F000000#32)) (Scalar.ofBits .f32 0x41080000#32)
      = ((min (max (r * 8) (1 / 2)) (17 / 2) : ℝ) : EReal) := by
    show min (max ((r : EReal) * Ideal.ofBits .f32 0x41000000#32) (Ideal.ofBits .f32 0x3F000000#32)) (Ideal.ofBits .f32 0x41080000#32) = _
    rw [ofBits_8, ofBits_1_2, ofBits_17_2, ← EReal.coe_mul, ← EReal.coe_strictMono.monotone.map_max, ← EReal.coe_strictMono.monotone.map_min]
  unfold Tile.cell
  rw [hy]
  have hs := ceil_step hk h₁ h₂
  show (((Scalar.select (Ideal.cmp .ogt _ _) _ _ : BitVec 32).toInt : ℝ) : EReal) * Ideal.ofBits .f32 0x3E000000#32 = _
  erw [hs]
  have ht : (BitVec.ofNat 32 k).toInt = (k : ℤ) := by interval_cases k <;> rfl
  rw [ht, ofBits_1_8, ← EReal.coe_mul, Int.cast_natCast]

/-- Between -10000 and 10000 the kernel and the reference agree. -/
theorem cell_chain {r : ℝ} (h₁ : -10000 < r) (h₂ : r ≤ 10000) :
    Tile.cell (F := Ideal) ((r : ℝ) : EReal) = ((chain 17 r : ℝ) : EReal) := by
  obtain ⟨i, hle, hl, hr⟩ := interval h₁ (n := 16) le_rfl (by simpa [hi] using h₂)
  have hc : chain 17 r = w i := by
    have h := chain_after hle hl hr (16 - i)
    rwa [show i + 1 + (16 - i) = 17 by omega] at h
  rw [hc]
  refine cell_eq (k := i - 8) (by omega) (lt_min ?_ ?_) ?_
  · by_cases h8 : i ≤ 8
    · rw [show i - 8 = 0 by omega]
      exact lt_max_of_lt_right (by norm_num)
    · refine lt_max_of_lt_left ?_
      unfold lo at hl
      rw [if_neg (by omega)] at hl
      rw [Nat.cast_sub (by omega)]
      push_cast
      linarith
  · have : ((i - 8 : ℕ) : ℝ) ≤ 8 := by exact_mod_cast (by omega : i - 8 ≤ 8)
    linarith
  · by_cases h16 : i = 16
    · subst h16
      exact min_le_of_right_le (by norm_num)
    · refine min_le_of_left_le (max_le ?_ ?_)
      · unfold hi at hr
        rw [if_neg h16] at hr
        have : ((i + 1 : ℕ) : ℝ) ≤ ((i - 8 : ℕ) : ℝ) + 9 := by exact_mod_cast (by omega : i + 1 ≤ i - 8 + 9)
        linarith
      · have : (0 : ℝ) ≤ ((i - 8 : ℕ) : ℝ) := Nat.cast_nonneg _
        linarith

end Cert.Proof.Math

end
-- ==== Proof.Pre.lean ====
/-
  What the precondition says, read at the extended reals: every entry of the two tables is the literal of its place,
  and every element of the image lies in the half-open interval from -10000 to 10000.
-/
module

public import proofs.«01_k».proof.Proof.Gen.Pre_tables
public import Idealize.ShloMosaic.Lib.ReduceAll
public import Idealize.ShloMosaic.Lib.IdealHost
public import Idealize.ShloMosaic.PureOps.Ideal.Laws

@[expose] public section

noncomputable section

namespace Cert.Proof.Pre

open Idealize.ShloMosaic Cert.Pre_tables

attribute [local instance] Cert.Pre_tables.Gen.facts

instance : Subsingleton S_.Idx := ⟨fun a b => funext fun i => i.elim0⟩

/-- A conjunction of two bits that is one has both of them one. -/
theorem and_one {x y : BitVec 1} (h : IntOp.andi x y = 1#1) : x = 1#1 ∧ y = 1#1 := by
  revert x y; decide

theorem eq_of_cmp {x y : EReal} (h : Ideal.cmp .oeq x y = 1#1) : x = y := by
  by_contra hne
  simp [Ideal.cmp, hne] at h

theorem lt_of_cmp {x y : EReal} (h : Ideal.cmp .ogt x y = 1#1) : y < x := by
  by_contra hne
  simp [Ideal.cmp, hne] at h

theorem le_of_cmp {x y : EReal} (h : Ideal.cmp .ole x y = 1#1) : x ≤ y := by
  by_contra hne
  simp [Ideal.cmp, hne] at h

variable {a : FVec Ideal S2x4096x2048 .f32} {q v : FVec Ideal S17 .f32}

/-- The precondition's three parts. -/
theorem parts (h : Cert.Pre_tables.fn (F := Ideal) a q v = fun _ => 1#1) :
    (∀ i, q i = Ideal.ofBits .f32 (lit0 (S17.rowMajor i))) ∧ (∀ i, v i = Ideal.ofBits .f32 (lit1 (S17.rowMajor i)))
    ∧ ∀ i, Ideal.ofBits .f32 0xC61C4000#32 < a i ∧ a i ≤ Ideal.ofBits .f32 0x461C4000#32 := by
  have h0 := congrFun h ValueIdx.ix0
  obtain ⟨h1, h2⟩ := and_one h0
  obtain ⟨h3, h4⟩ := and_one h1
  refine ⟨fun i => eq_of_cmp (Host.reduce_andi_all _ _ _ _ _ h3 i),
    fun i => eq_of_cmp (Host.reduce_andi_all _ _ _ _ _ h4 i), fun i => ?_⟩
  obtain ⟨h5, h6⟩ := and_one (Host.reduce_andi_all _ _ _ _ _ h2 i)
  exact ⟨lt_of_cmp h5, le_of_cmp h6⟩

end Cert.Proof.Pre

end
-- ==== Proof.Value.lean ====
/-
  The value claim. The reference's result at an index is its seventeen replacements applied to the argument's element
  there, under the precondition's tables; the kernel's result at an index is its arithmetic on the same element; the
  two agree on every number the precondition admits.
-/
module

public import proofs.«01_k».proof.Proof.Math
public import proofs.«01_k».proof.Proof.Pre
public import proofs.«01_k».proof.Proof.Frames
public import Idealize.ShloMosaic.Lib.Pipeline.Value

@[expose] public section

noncomputable section

namespace Cert.Proof.Value

open Idealize.ShloMosaic Idealize.SL.Sem Idealize.ShloMosaic.StableHlo Cert.ReferenceIdeal Cert.ReferenceIdeal.Gen
open Cert.ReferenceIdeal.Value Cert.Proof.Math

/-- The `k`-th place of a table. -/
def at17 (k : Fin 17) : S17.Idx := fun a => match a with | 0 => k

/-- A table's entry as the reference reads it: cut out, made a scalar, spread over the image. -/
theorem spread (q : S17.Idx → Ideal .f32) (k : Fin 17) (hs : S17.Slices ![k.val] S1) (hc : S1.ShapeCasts S_)
    (hb : S_.BroadcastsInDim S2x4096x2048 ![]) (j : S2x4096x2048.Idx) :
    broadcastInDim S2x4096x2048 ![] hb (shapeCast S_ (extractStridedSlice S1 ![k.val] q hs) hc) j = q (at17 k) := by
  rw [ValueIdx.broadcastInDim_scalar_apply, shapeCast_apply _ hc _ (fun a => match a with | 0 => (0 : Fin 1)) (by
    have h₁ := (S1.rowMajor fun a => match a with | 0 => (0 : Fin 1)).isLt
    have h₂ := (S_.rowMajor ValueIdx.ix0).isLt
    have e₁ : S1.numel = 1 := by decide
    have e₂ : S_.numel = 1 := by decide
    omega)]
  exact extractStridedSlice_apply _ q hs _ (at17 k) fun a => match a with | 0 => rfl

/-- One replacement of the reference at an index: the element `r`, the interval's ends and its value. -/
theorem replace {z l h v : S2x4096x2048.Idx → Ideal .f32} {j : S2x4096x2048.Idx} {r a b c : ℝ} (hz : z j = ((r : ℝ) : EReal))
    (hl : l j = ((a : ℝ) : EReal)) (hh : h j = ((b : ℝ) : EReal)) (hv : v j = ((c : ℝ) : EReal)) :
    select (andi (cmpf (F := Ideal) (φ := .f32) .ogt z l) (cmpf (F := Ideal) (φ := .f32) .ole z h)) v z j = ((stp a b c r : ℝ) : EReal) := by
  show Scalar.select (IntOp.andi (Ideal.cmp .ogt (z j) (l j)) (Ideal.cmp .ole (z j) (h j))) (v j) (z j) = _
  rw [hz, hl, hh, hv]
  exact select_stp a b c r

/-- The reference's result at an index, as the run states it. -/
def result (V0 : Valuation τ sig (Elt Ideal)) : S2x4096x2048.Idx → Ideal .f32 :=
  select (andi (cmpf .ogt (res_main_v189 V0) (broadcastInDim S2x4096x2048 ![] bcast_S_S2x4096x2048 (shapeCast _ (extractStridedSlice S1 ![16] (V0 (Proc.devRef .tc main_arg1)) slices_S17_S1_16) shapeCasts_S1_S_))) (cmpf .ole (res_main_v189 V0) (broadcastInDim S2x4096x2048 ![] bcast_S_S2x4096x2048 (constant S_ .f32 0x461C4000#32)))) (broadcastInDim S2x4096x2048 ![] bcast_S_S2x4096x2048 (shapeCast _ (extractStridedSlice S1 ![16] (V0 (Proc.devRef .tc main_arg2)) slices_S17_S1_16) shapeCasts_S1_S_)) (res_main_v189 V0)

variable {V0 : Valuation τ sig (Elt Ideal)}

/-- With the tables' entries the literals, the reference's result at an index is its seventeen replacements in turn. -/
theorem result_eq {j : S2x4096x2048.Idx} {r : ℝ}
    (hx : (V0 (Proc.devRef .tc main_arg0) : S2x4096x2048.Idx → Ideal .f32) j = ((r : ℝ) : EReal))
    (hq : ∀ i, (V0 (Proc.devRef .tc main_arg1) : S17.Idx → Ideal .f32) i = Ideal.ofBits .f32 (Cert.Pre_tables.lit0 (S17.rowMajor i)))
    (hv : ∀ i, (V0 (Proc.devRef .tc main_arg2) : S17.Idx → Ideal .f32) i = Ideal.ofBits .f32 (Cert.Pre_tables.lit1 (S17.rowMajor i))) :
    result V0 j = ((chain 17 r : ℝ) : EReal) := by
  have row : ∀ k : Fin 17, S17.rowMajor (at17 k) = k := fun k => Fin.ext (Shape.rowMajor_val_one (d := ![17]) (at17 k))
  have l (k : Fin 17) (hk : k.val ≠ 0) (hs hc hb) :
      broadcastInDim S2x4096x2048 ![] hb (shapeCast S_ (extractStridedSlice S1 ![k.val] (V0 (Proc.devRef .tc main_arg1) : S17.Idx → Ideal .f32) hs) hc) j = ((lo k.val : ℝ) : EReal) := by
    rw [spread _ k hs hc hb j, hq, row, ofBits_lit0, lo, if_neg hk]
  have h (k : Fin 17) (hk : k.val ≠ 0) (hs hc hb) :
      broadcastInDim S2x4096x2048 ![] hb (shapeCast S_ (extractStridedSlice S1 ![k.val] (V0 (Proc.devRef .tc main_arg1) : S17.Idx → Ideal .f32) hs) hc) j = ((hi (k.val - 1) : ℝ) : EReal) := by
    rw [l k hk hs hc hb, hi_eq_lo (by have := k.isLt; omega), Nat.sub_add_cancel (Nat.pos_of_ne_zero hk)]
  have v (k : Fin 17) (hs hc hb) :
      broadcastInDim S2x4096x2048 ![] hb (shapeCast S_ (extractStridedSlice S1 ![k.val] (V0 (Proc.devRef .tc main_arg2) : S17.Idx → Ideal .f32) hs) hc) j = ((w k.val : ℝ) : EReal) := by
    rw [spread _ k hs hc hb j, hv, row, ofBits_lit1]
  have h0 : res_main_v9 V0 j = ((chain 1 r : ℝ) : EReal) := replace hx ofBits_lo (h 1 (by decide) _ _ _) (v 0 _ _ _)
  have h1 : res_main_v21 V0 j = ((chain 2 r : ℝ) : EReal) := replace h0 (l 1 (by decide) _ _ _) (h 2 (by decide) _ _ _) (v 1 _ _ _)
  have h2 : res_main_v33 V0 j = ((chain 3 r : ℝ) : EReal) := replace h1 (l 2 (by decide) _ _ _) (h 3 (by decide) _ _ _) (v 2 _ _ _)
  have h3 : res_main_v45 V0 j = ((chain 4 r : ℝ) : EReal) := replace h2 (l 3 (by decide) _ _ _) (h 4 (by decide) _ _ _) (v 3 _ _ _)
  have h4 : res_main_v57 V0 j = ((chain 5 r : ℝ) : EReal) := replace h3 (l 4 (by decide) _ _ _) (h 5 (by decide) _ _ _) (v 4 _ _ _)
  have h5 : res_main_v69 V0 j = ((chain 6 r : ℝ) : EReal) := replace h4 (l 5 (by decide) _ _ _) (h 6 (by decide) _ _ _) (v 5 _ _ _)
  have h6 : res_main_v81 V0 j = ((chain 7 r : ℝ) : EReal) := replace h5 (l 6 (by decide) _ _ _) (h 7 (by decide) _ _ _) (v 6 _ _ _)
  have h7 : res_main_v93 V0 j = ((chain 8 r : ℝ) : EReal) := replace h6 (l 7 (by decide) _ _ _) (h 8 (by decide) _ _ _) (v 7 _ _ _)
  have h8 : res_main_v105 V0 j = ((chain 9 r : ℝ) : EReal) := replace h7 (l 8 (by decide) _ _ _) (h 9 (by decide) _ _ _) (v 8 _ _ _)
  have h9 : res_main_v117 V0 j = ((chain 10 r : ℝ) : EReal) := replace h8 (l 9 (by decide) _ _ _) (h 10 (by decide) _ _ _) (v 9 _ _ _)
  have h10 : res_main_v129 V0 j = ((chain 11 r : ℝ) : EReal) := replace h9 (l 10 (by decide) _ _ _) (h 11 (by decide) _ _ _) (v 10 _ _ _)
  have h11 : res_main_v141 V0 j = ((chain 12 r : ℝ) : EReal) := replace h10 (l 11 (by decide) _ _ _) (h 12 (by decide) _ _ _) (v 11 _ _ _)
  have h12 : res_main_v153 V0 j = ((chain 13 r : ℝ) : EReal) := replace h11 (l 12 (by decide) _ _ _) (h 13 (by decide) _ _ _) (v 12 _ _ _)
  have h13 : res_main_v165 V0 j = ((chain 14 r : ℝ) : EReal) := replace h12 (l 13 (by decide) _ _ _) (h 14 (by decide) _ _ _) (v 13 _ _ _)
  have h14 : res_main_v177 V0 j = ((chain 15 r : ℝ) : EReal) := replace h13 (l 14 (by decide) _ _ _) (h 15 (by decide) _ _ _) (v 14 _ _ _)
  have h15 : res_main_v189 V0 j = ((chain 16 r : ℝ) : EReal) := replace h14 (l 15 (by decide) _ _ _) (h 16 (by decide) _ _ _) (v 15 _ _ _)
  exact replace h15 (l 16 (by decide) _ _ _) ofBits_hi (v 16 _ _ _)

/-- The value claim: on every memory the precondition admits, the kernel's result is the reference's. -/
theorem algebraic : Cert.algebraic_KernelIdeal_ReferenceIdeal_pre_tables (hKernelIdeal := Cert.KernelIdeal.Gen.facts)
    (hReferenceIdeal := Cert.ReferenceIdeal.Gen.facts) (hPre_tables := Cert.Pre_tables.Gen.facts) := by
  intro m g m' g' hpre hm
  refine ⟨Tile.outOf m, (θ_run Cert.KernelIdeal.defs _ _).mono (fun _ h => h.1) (Tile.run_main (F := Ideal) m g),
    (θ_run Cert.ReferenceIdeal.defs _ _).mono (fun r h c => ⟨(h c).1.trans ?_, (h c).2⟩) (Cert.ReferenceIdeal.Value.run (F := Ideal) m' g')⟩
  obtain ⟨hq, hv, hx⟩ := Pre.parts (hpre c)
  obtain ⟨ha₀, ha₁, ha₂⟩ := hm c
  refine funext fun (j : S2x4096x2048.Idx) => ?_
  show result (launchContents m' c) j = Tile.cell (F := Ideal) ((m ((c.tc : Thread Cert.KernelIdeal.nD Cert.KernelIdeal.τ).loc Cert.KernelIdeal.main_arg0) : S2x4096x2048.Idx → Ideal .f32) j)
  have hj := hx j
  rw [ofBits_neg_10000, ofBits_10000] at hj
  have hr : ∃ r : ℝ, (m ((c.tc : Thread Cert.KernelIdeal.nD Cert.KernelIdeal.τ).loc Cert.KernelIdeal.main_arg0) : S2x4096x2048.Idx → Ideal .f32) j = ((r : ℝ) : EReal) :=
    ⟨_, (EReal.coe_toReal (ne_top_of_le_ne_top (EReal.coe_ne_top _) hj.2) (ne_bot_of_gt hj.1)).symm⟩
  obtain ⟨r, hr⟩ := hr
  rw [hr] at hj
  rw [hr, cell_chain (EReal.coe_lt_coe_iff.mp hj.1) (EReal.coe_le_coe_iff.mp hj.2)]
  exact result_eq ((congrFun ha₀ j).trans hr) (fun i => (congrFun ha₁ i).trans (hq i)) (fun i => (congrFun ha₂ i).trans (hv i))

end Cert.Proof.Value

end
-- ==== Proof.lean ====
module

public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tables
public import proofs.«01_k».proof.Proof.Frames
public import proofs.«01_k».proof.Proof.Value

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_tables.Gen.facts,
    frame_kernel, frame_ideal, frame_ideal_tables, frame_reference, frame_reference_tables, trivial, Value.algebraic⟩

end Cert.Proof

end
